-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51_17) = v0 c
          ∧ r.2.mem ((c.tc : Thread Cert.ReferenceIdeal.nD Cert.ReferenceIdeal.τ).loc Cert.ReferenceIdeal.main_v51_14) = v1 c
          ∧ r.2.mem ((c.tc : Thread Cert.ReferenceIdeal.nD Cert.ReferenceIdeal.τ).loc Cert.ReferenceIdeal.main_v51_16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S32x64x256 : Shape := ⟨3, ![32, 64, 256]⟩
abbrev S32 : Shape := ⟨1, ![32]⟩
abbrev S256x320 : Shape := ⟨2, ![256, 320]⟩
abbrev S320 : Shape := ⟨1, ![320]⟩
abbrev S1025x320 : Shape := ⟨2, ![1025, 320]⟩
abbrev S320x1280 : Shape := ⟨2, ![320, 1280]⟩
abbrev S1280 : Shape := ⟨1, ![1280]⟩
abbrev S320x320 : Shape := ⟨2, ![320, 320]⟩
abbrev S320x1025 : Shape := ⟨2, ![320, 1025]⟩
abbrev S1025 : Shape := ⟨1, ![1025]⟩
abbrev S_ : Shape := ⟨0, ![]⟩

class Facts : Prop where
  bcast_S_S32 : S_.BroadcastsInDim S32 (![] : Fin 0 → Fin S32.rank)
  bcast_S_S320 : S_.BroadcastsInDim S320 (![] : Fin 0 → Fin S320.rank)
  bcast_S_S1280 : S_.BroadcastsInDim S1280 (![] : Fin 0 → Fin S1280.rank)
  bcast_S_S1025 : S_.BroadcastsInDim S1025 (![] : Fin 0 → Fin S1025.rank)

variable [Facts]

def fn {F : FTy → Type} [FloatOps F] (main_arg0 : FVec F S32x64x256 .f32) (main_arg1 : IVec S32 32) (main_arg2 : FVec F S256x320 .f32) (main_arg3 : FVec F S320 .f32) (main_arg4 : FVec F S1025x320 .f32) (main_arg5 : FVec F S320x1280 .f32) (main_arg6 : FVec F S320x1280 .f32) (main_arg7 : FVec F S1280 .f32) (main_arg8 : FVec F S320x320 .f32) (main_arg9 : FVec F S320 .f32) (main_arg10 : FVec F S320x1025 .f32) (main_arg11 : FVec F S1025 .f32) : IVec S32 1 × IVec S320 1 × IVec S1280 1 × IVec S320 1 × IVec S1025 1 :=
  let main_c : IVec S_ 32 := constantI S_ 32 64#32
  let main_v0 : IVec S32 32 := broadcastInDim S32 ![] bcast_S_S32 main_c
  let main_v1 : IVec S32 1 := cmpi .sle main_arg1 main_v0
  let main_cst : FVec F S_ .f32 := constant S_ .f32 0x00000000#32
  let main_v2 : FVec F S320 .f32 := broadcastInDim S320 ![] bcast_S_S320 main_cst
  let main_v3 : IVec S320 1 := cmpf .oeq main_arg3 main_v2
  let main_cst_0 : FVec F S_ .f32 := constant S_ .f32 0x00000000#32
  let main_v4 : FVec F S1280 .f32 := broadcastInDim S1280 ![] bcast_S_S1280 main_cst_0
  let main_v5 : IVec S1280 1 := cmpf .oeq main_arg7 main_v4
  let main_cst_1 : FVec F S_ .f32 := constant S_ .f32 0x00000000#32
  let main_v6 : FVec F S320 .f32 := broadcastInDim S320 ![] bcast_S_S320 main_cst_1
  let main_v7 : IVec S320 1 := cmpf .oeq main_arg9 main_v6
  let main_cst_2 : FVec F S_ .f32 := constant S_ .f32 0x00000000#32
  let main_v8 : FVec F S1025 .f32 := broadcastInDim S1025 ![] bcast_S_S1025 main_cst_2
  let main_v9 : IVec S1025 1 := cmpf .oeq main_arg11 main_v8
  (main_v1, main_v3, main_v5, main_v7, main_v9)
-- ==== Kernel.lean ====
abbrev S32x64x256 : Shape := ⟨3, ![32, 64, 256]⟩
abbrev S32 : Shape := ⟨1, ![32]⟩
abbrev S256x320 : Shape := ⟨2, ![256, 320]⟩
abbrev S320 : Shape := ⟨1, ![320]⟩
abbrev S1025x320 : Shape := ⟨2, ![1025, 320]⟩
abbrev S320x1280 : Shape := ⟨2, ![320, 1280]⟩
abbrev S1280 : Shape := ⟨1, ![1280]⟩
abbrev S320x320 : Shape := ⟨2, ![320, 320]⟩
abbrev S320x1025 : Shape := ⟨2, ![320, 1025]⟩
abbrev S1025 : Shape := ⟨1, ![1025]⟩
abbrev S2048x256 : Shape := ⟨2, ![2048, 256]⟩
abbrev S32x1 : Shape := ⟨2, ![32, 1]⟩
abbrev S32x128 : Shape := ⟨2, ![32, 128]⟩
abbrev S32x64x320 : Shape := ⟨3, ![32, 64, 320]⟩
abbrev S_ : Shape := ⟨0, ![]⟩
abbrev S2048x320 : Shape := ⟨2, ![2048, 320]⟩
abbrev S32x1025 : Shape := ⟨2, ![32, 1025]⟩
abbrev S32x1x320 : Shape := ⟨3, ![32, 1, 320]⟩
abbrev S32x320 : Shape := ⟨2, ![32, 320]⟩
abbrev S32x1280 : Shape := ⟨2, ![32, 1280]⟩
abbrev S1x1 : Shape := ⟨2, ![1, 1]⟩
abbrev S1x1x320 : Shape := ⟨3, ![1, 1, 320]⟩
abbrev S1x320 : Shape := ⟨2, ![1, 320]⟩

abbrev nBuf : Space → Nat
  | .hbm => 26
  | .vmem => 13
  | .smem => 1
  | _ => 0

abbrev bufTy : (tb : Table) → Fin (tcTables nBuf tb) → BufTy
  | .hbm, ⟨0, _⟩ => ⟨S32x64x256, .f32⟩
  | .hbm, ⟨1, _⟩ => ⟨S32, .i32⟩
  | .hbm, ⟨2, _⟩ => ⟨S256x320, .f32⟩
  | .hbm, ⟨3, _⟩ => ⟨S320, .f32⟩
  | .hbm, ⟨4, _⟩ => ⟨S1025x320, .f32⟩
  | .hbm, ⟨5, _⟩ => ⟨S320x1280, .f32⟩
  | .hbm, ⟨6, _⟩ => ⟨S320x1280, .f32⟩
  | .hbm, ⟨7, _⟩ => ⟨S1280, .f32⟩
  | .hbm, ⟨8, _⟩ => ⟨S320x320, .f32⟩
  | .hbm, ⟨9, _⟩ => ⟨S320, .f32⟩
  | .hbm, ⟨10, _⟩ => ⟨S320x1025, .f32⟩
  | .hbm, ⟨11, _⟩ => ⟨S1025, .f32⟩
  | .hbm, ⟨12, _⟩ => ⟨S2048x256, .f32⟩
  | .hbm, ⟨13, _⟩ => ⟨S2048x256, .bf16⟩
  | .hbm, ⟨14, _⟩ => ⟨S32x1, .i32⟩
  | .hbm, ⟨15, _⟩ => ⟨S256x320, .bf16⟩
  | .hbm, ⟨16, _⟩ => ⟨S1025x320, .bf16⟩
  | .hbm, ⟨17, _⟩ => ⟨S320x1280, .bf16⟩
  | .hbm, ⟨18, _⟩ => ⟨S320x1280, .bf16⟩
  | .hbm, ⟨19, _⟩ => ⟨S320x320, .bf16⟩
  | .hbm, ⟨20, _⟩ => ⟨S320x1025, .bf16⟩
  | .hbm, ⟨21, _⟩ => ⟨S32x128, .i32⟩
  | .hbm, ⟨22, _⟩ => ⟨S32x1, .i32⟩
  | .hbm, ⟨23, _⟩ => ⟨S32x1, .f32⟩
  | .hbm, ⟨24, _⟩ => ⟨S32, .i32⟩
  | .hbm, ⟨25, _⟩ => ⟨S32, .f32⟩
  | .local _ .vmem, ⟨0, _⟩ => ⟨S2048x256, .bf16⟩
  | .local _ .vmem, ⟨1, _⟩ => ⟨S32x1, .i32⟩
  | .local _ .vmem, ⟨2, _⟩ => ⟨S256x320, .bf16⟩
  | .local _ .vmem, ⟨3, _⟩ => ⟨S1025x320, .bf16⟩
  | .local _ .vmem, ⟨4, _⟩ => ⟨S320x1280, .bf16⟩
  | .local _ .vmem, ⟨5, _⟩ => ⟨S320x1280, .bf16⟩
  | .local _ .vmem, ⟨6, _⟩ => ⟨S320x320, .bf16⟩
  | .local _ .vmem, ⟨7, _⟩ => ⟨S320x1025, .bf16⟩
  | .local _ .vmem, ⟨8, _⟩ => ⟨S32x128, .i32⟩
  | .local _ .vmem, ⟨9, _⟩ => ⟨S32x1, .i32⟩
  | .local _ .vmem, ⟨10, _⟩ => ⟨S32x1, .f32⟩
  | .local _ .vmem, ⟨11, _⟩ => ⟨S32x64x320, .f32⟩
  | .local _ .vmem, ⟨12, _⟩ => ⟨S32x1, .i32⟩
  | .local _ .smem, ⟨0, _⟩ => ⟨S32x1, .i32⟩
  | _, _ => ⟨S32x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_v0_0 : Ref sig .tc := ⟨.hbm, 21, rfl⟩
abbrev main_call0_v9_1 : Ref sig .tc := ⟨.hbm, 22, rfl⟩
abbrev main_call0_v9_2 : Ref sig .tc := ⟨.hbm, 23, rfl⟩
abbrev main_v0_1 : Ref sig .tc := ⟨.hbm, 24, rfl⟩
abbrev main_v0_2 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32_14 : BitVec 32 := 0#32
  let c128_i32 : BitVec 32 := 128#32
  let v23 : BitVec 32 := Scalar.addi c0_i32_14 c128_i32
  let c1_i32 : BitVec 32 := 1#32
  ⟨c0_i32_14, v23, c1_i32⟩
def k0_off1 (v126 : BitVec 32) : Fin 3 → Nat :=
  let c0_52 : Index := 0#32
  let v127 : Index := Scalar.indexCast v126
  let c0_53 : Index := 0#32
  ![0, v127.toNat, 0]

def k0_chk1 (v126 : BitVec 32) : Prop :=
  (∀ a, (k0_off1 v126) a + S1x1x320.size a ≤ S32x64x320.size a)
theorem k0_off1_inb : ∀ (v126 : BitVec 32) (k0_hw1 : k0_chk1 v126), ∀ a, (k0_off1 v126) a + S1x1x320.size a ≤ S32x64x320.size a := fun v126 k0_hw1 => k0_hw1

def k0_off2 (v130 : BitVec 32) : Fin 3 → Nat :=
  let c1_55 : Index := 1#32
  let v131 : Index := Scalar.indexCast v130
  let c0_56 : Index := 0#32
  ![1, v131.toNat, 0]

def k0_chk2 (v130 : BitVec 32) : Prop :=
  (∀ a, (k0_off2 v130) a + S1x1x320.size a ≤ S32x64x320.size a)
theorem k0_off2_inb : ∀ (v130 : BitVec 32) (k0_hw2 : k0_chk2 v130), ∀ a, (k0_off2 v130) a + S1x1x320.size a ≤ S32x64x320.size a := fun v130 k0_hw2 => k0_hw2

def k0_off3 (v134 : BitVec 32) : Fin 3 → Nat :=
  let c2_58 : Index := 2#32
  let v135 : Index := Scalar.indexCast v134
  let c0_59 : Index := 0#32
  ![2, v135.toNat, 0]

def k0_chk3 (v134 : BitVec 32) : Prop :=
  (∀ a, (k0_off3 v134) a + S1x1x320.size a ≤ S32x64x320.size a)
theorem k0_off3_inb : ∀ (v134 : BitVec 32) (k0_hw3 : k0_chk3 v134), ∀ a, (k0_off3 v134) a + S1x1x320.size a ≤ S32x64x320.size a := fun v134 k0_hw3 => k0_hw3

def k0_off4 (v138 : BitVec 32) : Fin 3 → Nat :=
  let c3_61 : Index := 3#32
  let v139 : Index := Scalar.indexCast v138
  let c0_62 : Index := 0#32
  ![3, v139.toNat, 0]

def k0_chk4 (v138 : BitVec 32) : Prop :=
  (∀ a, (k0_off4 v138) a + S1x1x320.size a ≤ S32x64x320.size a)
theorem k0_off4_inb : ∀ (v138 : BitVec 32) (k0_hw4 : k0_chk4 v138), ∀ a, (k0_off4 v138) a + S1x1x320.size a ≤ S32x64x320.size a := fun v138 k0_hw4 => k0_hw4

def k0_off5 (v142 : BitVec 32) : Fin 3 → Nat :=
  let c4_64 : Index := 4#32
  let v143 : Index := Scalar.indexCast v142
  let c0_65 : Index := 0#32
  ![4, v143.toNat, 0]

def k0_chk5 (v142 : BitVec 32) : Prop :=
  (∀ a, (k0_off5 v142) a + S1x1x320.size a ≤ S32x64x320.size a)
theorem k0_off5_inb : ∀ (v142 : BitVec 32) (k0_hw5 : k0_chk5 v142), ∀ a, (k0_off5 v142) a + S1x1x320.size a ≤ S32x64x320.size a := fun v142 k0_hw5 => k0_hw5

def k0_off6 (v146 : BitVec 32) : Fin 3 → Nat :=
  let c5_67 : Index := 5#32
  let v147 : Index := Scalar.indexCast v146
  let c0_68 : Index := 0#32
  ![5, v147.toNat, 0]

def k0_chk6 (v146 : BitVec 32) : Prop :=
  (∀ a, (k0_off6 v146) a + S1x1x320.size a ≤ S32x64x320.size a)
theorem k0_off6_inb : ∀ (v146 : BitVec 32) (k0_hw6 : k0_chk6 v146), ∀ a, (k0_off6 v146) a + S1x1x320.size a ≤ S32x64x320.size a := fun v146 k0_hw6 => k0_hw6

def k0_off7 (v150 : BitVec 32) : Fin 3 → Nat :=
  let c6_70 : Index := 6#32
  let v151 : Index := Scalar.indexCast v150
  let c0_71 : Index := 0#32
  ![6, v151.toNat, 0]

def k0_chk7 (v150 : BitVec 32) : Prop :=
  (∀ a, (k0_off7 v150) a + S1x1x320.size a ≤ S32x64x320.size a)
theorem k0_off7_inb : ∀ (v150 : BitVec 32) (k0_hw7 : k0_chk7 v150), ∀ a, (k0_off7 v150) a + S1x1x320.size a ≤ S32x64x320.size a := fun v150 k0_hw7 => k0_hw7

def k0_off8 (v154 : BitVec 32) : Fin 3 → Nat :=
  let c7_73 : Index := 7#32
  let v155 : Index := Scalar.indexCast v154
  let c0_74 : Index := 0#32
  ![7, v155.toNat, 0]

def k0_chk8 (v154 : BitVec 32) : Prop :=
  (∀ a, (k0_off8 v154) a + S1x1x320.size a ≤ S32x64x320.size a)
theorem k0_off8_inb : ∀ (v154 : BitVec 32) (k0_hw8 : k0_chk8 v154), ∀ a, (k0_off8 v154) a + S1x1x320.size a ≤ S32x64x320.size a := fun v154 k0_hw8 => k0_hw8

def k0_off9 (v158 : BitVec 32) : Fin 3 → Nat :=
  let c8_76 : Index := 8#32
  let v159 : Index := Scalar.indexCast v158
  let c0_77 : Index := 0#32
  ![8, v159.toNat, 0]

def k0_chk9 (v158 : BitVec 32) : Prop :=
  (∀ a, (k0_off9 v158) a + S1x1x320.size a ≤ S32x64x320.size a)
theorem k0_off9_inb : ∀ (v158 : BitVec 32) (k0_hw9 : k0_chk9 v158), ∀ a, (k0_off9 v158) a + S1x1x320.size a ≤ S32x64x320.size a := fun v158 k0_hw9 => k0_hw9

def k0_off10 (v162 : BitVec 32) : Fin 3 → Nat :=
  let c9_79 : Index := 9#32
  let v163 : Index := Scalar.indexCast v162
  let c0_80 : Index := 0#32
  ![9, v163.toNat, 0]

def k0_chk10 (v162 : BitVec 32) : Prop :=
  (∀ a, (k0_off10 v162) a + S1x1x320.size a ≤ S32x64x320.size a)
theorem k0_off10_inb : ∀ (v162 : BitVec 32) (k0_hw10 : k0_chk10 v162), ∀ a, (k0_off10 v162) a + S1x1x320.size a ≤ S32x64x320.size a := fun v162 k0_hw10 => k0_hw10

def k0_off11 (v166 : BitVec 32) : Fin 3 → Nat :=
  let c10_82 : Index := 10#32
  let v167 : Index := Scalar.indexCast v166
  let c0_83 : Index := 0#32
  ![10, v167.toNat, 0]

def k0_chk11 (v166 : BitVec 32) : Prop :=
  (∀ a, (k0_off11 v166) a + S1x1x320.size a ≤ S32x64x320.size a)
theorem k0_off11_inb : ∀ (v166 : BitVec 32) (k0_hw11 : k0_chk11 v166), ∀ a, (k0_off11 v166) a + S1x1x320.size a ≤ S32x64x320.size a := fun v166 k0_hw11 => k0_hw11

def k0_off12 (v170 : BitVec 32) : Fin 3 → Nat :=
  let c11_85 : Index := 11#32
  let v171 : Index := Scalar.indexCast v170
  let c0_86 : Index := 0#32
  ![11, v171.toNat, 0]

def k0_chk12 (v170 : BitVec 32) : Prop :=
  (∀ a, (k0_off12 v170) a + S1x1x320.size a ≤ S32x64x320.size a)
theorem k0_off12_inb : ∀ (v170 : BitVec 32) (k0_hw12 : k0_chk12 v170), ∀ a, (k0_off12 v170) a + S1x1x320.size a ≤ S32x64x320.size a := fun v170 k0_hw12 => k0_hw12

def k0_off13 (v174 : BitVec 32) : Fin 3 → Nat :=
  let c12_88 : Index := 12#32
  let v175 : Index := Scalar.indexCast v174
  let c0_89 : Index := 0#32
  ![12, v175.toNat, 0]

def k0_chk13 (v174 : BitVec 32) : Prop :=
  (∀ a, (k0_off13 v174) a + S1x1x320.size a ≤ S32x64x320.size a)
theorem k0_off13_inb : ∀ (v174 : BitVec 32) (k0_hw13 : k0_chk13 v174), ∀ a, (k0_off13 v174) a + S1x1x320.size a ≤ S32x64x320.size a := fun v174 k0_hw13 => k0_hw13

def k0_off14 (v178 : BitVec 32) : Fin 3 → Nat :=
  let c13_91 : Index := 13#32
  let v179 : Index := Scalar.indexCast v178
  let c0_92 : Index := 0#32
  ![13, v179.toNat, 0]

def k0_chk14 (v178 : BitVec 32) : Prop :=
  (∀ a, (k0_off14 v178) a + S1x1x320.size a ≤ S32x64x320.size a)
theorem k0_off14_inb : ∀ (v178 : BitVec 32) (k0_hw14 : k0_chk14 v178), ∀ a, (k0_off14 v178) a + S1x1x320.size a ≤ S32x64x320.size a := fun v178 k0_hw14 => k0_hw14

def k0_off15 (v182 : BitVec 32) : Fin 3 → Nat :=
  let c14_94 : Index := 14#32
  let v183 : Index := Scalar.indexCast v182
  let c0_95 : Index := 0#32
  ![14, v183.toNat, 0]

def k0_chk15 (v182 : BitVec 32) : Prop :=
  (∀ a, (k0_off15 v182) a + S1x1x320.size a ≤ S32x64x320.size a)
theorem k0_off15_inb : ∀ (v182 : BitVec 32) (k0_hw15 : k0_chk15 v182), ∀ a, (k0_off15 v182) a + S1x1x320.size a ≤ S32x64x320.size a := fun v182 k0_hw15 => k0_hw15

def k0_off16 (v186 : BitVec 32) : Fin 3 → Nat :=
  let c15_97 : Index := 15#32
  let v187 : Index := Scalar.indexCast v186
  let c0_98 : Index := 0#32
  ![15, v187.toNat, 0]

def k0_chk16 (v186 : BitVec 32) : Prop :=
  (∀ a, (k0_off16 v186) a + S1x1x320.size a ≤ S32x64x320.size a)
theorem k0_off16_inb : ∀ (v186 : BitVec 32) (k0_hw16 : k0_chk16 v186), ∀ a, (k0_off16 v186) a + S1x1x320.size a ≤ S32x64x320.size a := fun v186 k0_hw16 => k0_hw16

def k0_off17 (v190 : BitVec 32) : Fin 3 → Nat :=
  let c16_100 : Index := 16#32
  let v191 : Index := Scalar.indexCast v190
  let c0_101 : Index := 0#32
  ![16, v191.toNat, 0]

def k0_chk17 (v190 : BitVec 32) : Prop :=
  (∀ a, (k0_off17 v190) a + S1x1x320.size a ≤ S32x64x320.size a)
theorem k0_off17_inb : ∀ (v190 : BitVec 32) (k0_hw17 : k0_chk17 v190), ∀ a, (k0_off17 v190) a + S1x1x320.size a ≤ S32x64x320.size a := fun v190 k0_hw17 => k0_hw17

def k0_off18 (v194 : BitVec 32) : Fin 3 → Nat :=
  let c17_103 : Index := 17#32
  let v195 : Index := Scalar.indexCast v194
  let c0_104 : Index := 0#32
  ![17, v195.toNat, 0]

def k0_chk18 (v194 : BitVec 32) : Prop :=
  (∀ a, (k0_off18 v194) a + S1x1x320.size a ≤ S32x64x320.size a)
theorem k0_off18_inb : ∀ (v194 : BitVec 32) (k0_hw18 : k0_chk18 v194), ∀ a, (k0_off18 v194) a + S1x1x320.size a ≤ S32x64x320.size a := fun v194 k0_hw18 => k0_hw18

def k0_off19 (v198 : BitVec 32) : Fin 3 → Nat :=
  let c18_106 : Index := 18#32
  let v199 : Index := Scalar.indexCast v198
  let c0_107 : Index := 0#32
  ![18, v199.toNat, 0]

def k0_chk19 (v198 : BitVec 32) : Prop :=
  (∀ a, (k0_off19 v198) a + S1x1x320.size a ≤ S32x64x320.size a)
theorem k0_off19_inb : ∀ (v198 : BitVec 32) (k0_hw19 : k0_chk19 v198), ∀ a, (k0_off19 v198) a + S1x1x320.size a ≤ S32x64x320.size a := fun v198 k0_hw19 => k0_hw19

def k0_off20 (v202 : BitVec 32) : Fin 3 → Nat :=
  let c19_109 : Index := 19#32
  let v203 : Index := Scalar.indexCast v202
  let c0_110 : Index := 0#32
  ![19, v203.toNat, 0]

def k0_chk20 (v202 : BitVec 32) : Prop :=
  (∀ a, (k0_off20 v202) a + S1x1x320.size a ≤ S32x64x320.size a)
theorem k0_off20_inb : ∀ (v202 : BitVec 32) (k0_hw20 : k0_chk20 v202), ∀ a, (k0_off20 v202) a + S1x1x320.size a ≤ S32x64x320.size a := fun v202 k0_hw20 => k0_hw20

def k0_off21 (v206 : BitVec 32) : Fin 3 → Nat :=
  let c20_112 : Index := 20#32
  let v207 : Index := Scalar.indexCast v206
  let c0_113 : Index := 0#32
  ![20, v207.toNat, 0]

def k0_chk21 (v206 : BitVec 32) : Prop :=
  (∀ a, (k0_off21 v206) a + S1x1x320.size a ≤ S32x64x320.size a)
theorem k0_off21_inb : ∀ (v206 : BitVec 32) (k0_hw21 : k0_chk21 v206), ∀ a, (k0_off21 v206) a + S1x1x320.size a ≤ S32x64x320.size a := fun v206 k0_hw21 => k0_hw21

def k0_off22 (v210 : BitVec 32) : Fin 3 → Nat :=
  let c21_115 : Index := 21#32
  let v211 : Index := Scalar.indexCast v210
  let c0_116 : Index := 0#32
  ![21, v211.toNat, 0]

def k0_chk22 (v210 : BitVec 32) : Prop :=
  (∀ a, (k0_off22 v210) a + S1x1x320.size a ≤ S32x64x320.size a)
theorem k0_off22_inb : ∀ (v210 : BitVec 32) (k0_hw22 : k0_chk22 v210), ∀ a, (k0_off22 v210) a + S1x1x320.size a ≤ S32x64x320.size a := fun v210 k0_hw22 => k0_hw22

def k0_off23 (v214 : BitVec 32) : Fin 3 → Nat :=
  let c22_118 : Index := 22#32
  let v215 : Index := Scalar.indexCast v214
  let c0_119 : Index := 0#32
  ![22, v215.toNat, 0]

def k0_chk23 (v214 : BitVec 32) : Prop :=
  (∀ a, (k0_off23 v214) a + S1x1x320.size a ≤ S32x64x320.size a)
theorem k0_off23_inb : ∀ (v214 : BitVec 32) (k0_hw23 : k0_chk23 v214), ∀ a, (k0_off23 v214) a + S1x1x320.size a ≤ S32x64x320.size a := fun v214 k0_hw23 => k0_hw23

def k0_off24 (v218 : BitVec 32) : Fin 3 → Nat :=
  let c23_121 : Index := 23#32
  let v219 : Index := Scalar.indexCast v218
  let c0_122 : Index := 0#32
  ![23, v219.toNat, 0]

def k0_chk24 (v218 : BitVec 32) : Prop :=
  (∀ a, (k0_off24 v218) a + S1x1x320.size a ≤ S32x64x320.size a)
theorem k0_off24_inb : ∀ (v218 : BitVec 32) (k0_hw24 : k0_chk24 v218), ∀ a, (k0_off24 v218) a + S1x1x320.size a ≤ S32x64x320.size a := fun v218 k0_hw24 => k0_hw24

def k0_off25 (v222 : BitVec 32) : Fin 3 → Nat :=
  let c24_124 : Index := 24#32
  let v223 : Index := Scalar.indexCast v222
  let c0_125 : Index := 0#32
  ![24, v223.toNat, 0]

def k0_chk25 (v222 : BitVec 32) : Prop :=
  (∀ a, (k0_off25 v222) a + S1x1x320.size a ≤ S32x64x320.size a)
theorem k0_off25_inb : ∀ (v222 : BitVec 32) (k0_hw25 : k0_chk25 v222), ∀ a, (k0_off25 v222) a + S1x1x320.size a ≤ S32x64x320.size a := fun v222 k0_hw25 => k0_hw25

def k0_off26 (v226 : BitVec 32) : Fin 3 → Nat :=
  let c25_127 : Index := 25#32
  let v227 : Index := Scalar.indexCast v226
  let c0_128 : Index := 0#32
  ![25, v227.toNat, 0]

def k0_chk26 (v226 : BitVec 32) : Prop :=
  (∀ a, (k0_off26 v226) a + S1x1x320.size a ≤ S32x64x320.size a)
theorem k0_off26_inb : ∀ (v226 : BitVec 32) (k0_hw26 : k0_chk26 v226), ∀ a, (k0_off26 v226) a + S1x1x320.size a ≤ S32x64x320.size a := fun v226 k0_hw26 => k0_hw26

def k0_off27 (v230 : BitVec 32) : Fin 3 → Nat :=
  let c26_130 : Index := 26#32
  let v231 : Index := Scalar.indexCast v230
  let c0_131 : Index := 0#32
  ![26, v231.toNat, 0]

def k0_chk27 (v230 : BitVec 32) : Prop :=
  (∀ a, (k0_off27 v230) a + S1x1x320.size a ≤ S32x64x320.size a)
theorem k0_off27_inb : ∀ (v230 : BitVec 32) (k0_hw27 : k0_chk27 v230), ∀ a, (k0_off27 v230) a + S1x1x320.size a ≤ S32x64x320.size a := fun v230 k0_hw27 => k0_hw27

def k0_off28 (v234 : BitVec 32) : Fin 3 → Nat :=
  let c27_133 : Index := 27#32
  let v235 : Index := Scalar.indexCast v234
  let c0_134 : Index := 0#32
  ![27, v235.toNat, 0]

def k0_chk28 (v234 : BitVec 32) : Prop :=
  (∀ a, (k0_off28 v234) a + S1x1x320.size a ≤ S32x64x320.size a)
theorem k0_off28_inb : ∀ (v234 : BitVec 32) (k0_hw28 : k0_chk28 v234), ∀ a, (k0_off28 v234) a + S1x1x320.size a ≤ S32x64x320.size a := fun v234 k0_hw28 => k0_hw28

def k0_off29 (v238 : BitVec 32) : Fin 3 → Nat :=
  let c28_136 : Index := 28#32
  let v239 : Index := Scalar.indexCast v238
  let c0_137 : Index := 0#32
  ![28, v239.toNat, 0]

def k0_chk29 (v238 : BitVec 32) : Prop :=
  (∀ a, (k0_off29 v238) a + S1x1x320.size a ≤ S32x64x320.size a)
theorem k0_off29_inb : ∀ (v238 : BitVec 32) (k0_hw29 : k0_chk29 v238), ∀ a, (k0_off29 v238) a + S1x1x320.size a ≤ S32x64x320.size a := fun v238 k0_hw29 => k0_hw29

def k0_off30 (v242 : BitVec 32) : Fin 3 → Nat :=
  let c29_139 : Index := 29#32
  let v243 : Index := Scalar.indexCast v242
  let c0_140 : Index := 0#32
  ![29, v243.toNat, 0]

def k0_chk30 (v242 : BitVec 32) : Prop :=
  (∀ a, (k0_off30 v242) a + S1x1x320.size a ≤ S32x64x320.size a)
theorem k0_off30_inb : ∀ (v242 : BitVec 32) (k0_hw30 : k0_chk30 v242), ∀ a, (k0_off30 v242) a + S1x1x320.size a ≤ S32x64x320.size a := fun v242 k0_hw30 => k0_hw30

def k0_off31 (v246 : BitVec 32) : Fin 3 → Nat :=
  let c30_142 : Index := 30#32
  let v247 : Index := Scalar.indexCast v246
  let c0_143 : Index := 0#32
  ![30, v247.toNat, 0]

def k0_chk31 (v246 : BitVec 32) : Prop :=
  (∀ a, (k0_off31 v246) a + S1x1x320.size a ≤ S32x64x320.size a)
theorem k0_off31_inb : ∀ (v246 : BitVec 32) (k0_hw31 : k0_chk31 v246), ∀ a, (k0_off31 v246) a + S1x1x320.size a ≤ S32x64x320.size a := fun v246 k0_hw31 => k0_hw31

def k0_off32 (v250 : BitVec 32) : Fin 3 → Nat :=
  let c31_145 : Index := 31#32
  let v251 : Index := Scalar.indexCast v250
  let c0_146 : Index := 0#32
  ![31, v251.toNat, 0]

def k0_chk32 (v250 : BitVec 32) : Prop :=
  (∀ a, (k0_off32 v250) a + S1x1x320.size a ≤ S32x64x320.size a)
theorem k0_off32_inb : ∀ (v250 : BitVec 32) (k0_hw32 : k0_chk32 v250), ∀ a, (k0_off32 v250) a + S1x1x320.size a ≤ S32x64x320.size a := fun v250 k0_hw32 => k0_hw32

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1025x320 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S320x320 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S320x1025 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S32x64x256 : Shape := ⟨3, ![32, 64, 256]⟩
abbrev S32 : Shape := ⟨1, ![32]⟩
abbrev S256x320 : Shape := ⟨2, ![256, 320]⟩
abbrev S320 : Shape := ⟨1, ![320]⟩
abbrev S1025x320 : Shape := ⟨2, ![1025, 320]⟩
abbrev S320x1280 : Shape := ⟨2, ![320, 1280]⟩
abbrev S1280 : Shape := ⟨1, ![1280]⟩
abbrev S320x320 : Shape := ⟨2, ![320, 320]⟩
abbrev S320x1025 : Shape := ⟨2, ![320, 1025]⟩
abbrev S1025 : Shape := ⟨1, ![1025]⟩
abbrev S32x64x320 : Shape := ⟨3, ![32, 64, 320]⟩
abbrev S1x1x320 : Shape := ⟨3, ![1, 1, 320]⟩
abbrev S_ : Shape := ⟨0, ![]⟩
abbrev S32x320 : Shape := ⟨2, ![32, 320]⟩
abbrev S32x1280 : Shape := ⟨2, ![32, 1280]⟩
abbrev S1x1280 : Shape := ⟨2, ![1, 1280]⟩
abbrev S1x320 : Shape := ⟨2, ![1, 320]⟩
abbrev S32x128 : Shape := ⟨2, ![32, 128]⟩
abbrev S32x1 : Shape := ⟨2, ![32, 1]⟩
abbrev S32x2 : Shape := ⟨2, ![32, 2]⟩
abbrev S32x1025 : Shape := ⟨2, ![32, 1025]⟩
abbrev S1x1025 : Shape := ⟨2, ![1, 1025]⟩

abbrev nBuf : Space → Nat
  | .hbm => 276
  | .vmem => 0
  | .smem => 0
  | _ => 0

abbrev hbmTy0_0 (i : Nat) : BufTy := match i % 128 with
  | 0 => ⟨S32x64x256, .f32⟩
  | 1 => ⟨S32, .i32⟩
  | 2 => ⟨S256x320, .f32⟩
  | 3 => ⟨S320, .f32⟩
  | 4 => ⟨S1025x320, .f32⟩
  | 5 => ⟨S320x1280, .f32⟩
  | 6 => ⟨S320x1280, .f32⟩
  | 7 => ⟨S1280, .f32⟩
  | 8 => ⟨S320x320, .f32⟩
  | 9 => ⟨S320, .f32⟩
  | 10 => ⟨S320x1025, .f32⟩
  | 11 => ⟨S1025, .f32⟩
  | 12 => ⟨S32x64x320, .f32⟩
  | 13 => ⟨S1x1x320, .f32⟩
  | 14 => ⟨S32x64x320, .f32⟩
  | 15 => ⟨S32x64x320, .f32⟩
  | 16 => ⟨S_, .f32⟩
  | 17 => ⟨S32x320, .f32⟩
  | 18 => ⟨S_, .f32⟩
  | 19 => ⟨S32x320, .f32⟩
  | 20 => ⟨S_, .f32⟩
  | 21 => ⟨S32x320, .f32⟩
  | 22 => ⟨S32x1280, .f32⟩
  | 23 => ⟨S32x1280, .f32⟩
  | 24 => ⟨S32x1280, .f32⟩
  | 25 => ⟨S1x1280, .f32⟩
  | 26 => ⟨S32x1280, .f32⟩
  | 27 => ⟨S32x1280, .f32⟩
  | 28 => ⟨S32x320, .f32⟩
  | 29 => ⟨S32x320, .f32⟩
  | 30 => ⟨S32x320, .f32⟩
  | 31 => ⟨S32x320, .f32⟩
  | 32 => ⟨S32x320, .f32⟩
  | 33 => ⟨S32x320, .f32⟩
  | 34 => ⟨S_, .f32⟩
  | 35 => ⟨S32x320, .f32⟩
  | 36 => ⟨S32x320, .f32⟩
  | 37 => ⟨S_, .f32⟩
  | 38 => ⟨S32x320, .f32⟩
  | 39 => ⟨S32x320, .f32⟩
  | 40 => ⟨S32x320, .f32⟩
  | 41 => ⟨S32x320, .f32⟩
  | 42 => ⟨S32x320, .f32⟩
  | 43 => ⟨S_, .f32⟩
  | 44 => ⟨S32x320, .f32⟩
  | 45 => ⟨S32x320, .f32⟩
  | 46 => ⟨S_, .f32⟩
  | 47 => ⟨S32x320, .f32⟩
  | 48 => ⟨S32x320, .f32⟩
  | 49 => ⟨S32x320, .f32⟩
  | 50 => ⟨S32x320, .f32⟩
  | 51 => ⟨S32x320, .f32⟩
  | 52 => ⟨S32x320, .f32⟩
  | 53 => ⟨S32x320, .f32⟩
  | 54 => ⟨S_, .f32⟩
  | 55 => ⟨S32x320, .f32⟩
  | 56 => ⟨S32x320, .f32⟩
  | 57 => ⟨S_, .f32⟩
  | 58 => ⟨S32x320, .f32⟩
  | 59 => ⟨S32x320, .f32⟩
  | 60 => ⟨S32x320, .f32⟩
  | 61 => ⟨S32x320, .f32⟩
  | 62 => ⟨S32x320, .f32⟩
  | 63 => ⟨S1x320, .f32⟩
  | 64 => ⟨S32x320, .f32⟩
  | 65 => ⟨S32x320, .f32⟩
  | 66 => ⟨S_, .i32⟩
  | 67 => ⟨S32, .i32⟩
  | 68 => ⟨S_, .i32⟩
  | 69 => ⟨S32, .i32⟩
  | 70 => ⟨S_, .i32⟩
  | 71 => ⟨S32, .i32⟩
  | 72 => ⟨S_, .f32⟩
  | 73 => ⟨S32, .f32⟩
  | 74 => ⟨S_, .i32⟩
  | 75 => ⟨S32x128, .i32⟩
  | 76 => ⟨S32, .i32⟩
  | 77 => ⟨S_, .i32⟩
  | 78 => ⟨S_, .i32⟩
  | 79 => ⟨S32, .i32⟩
  | 80 => ⟨S32, .i32⟩
  | 81 => ⟨S32x64x320, .f32⟩
  | 82 => ⟨S320x1025, .f32⟩
  | 83 => ⟨S1025, .f32⟩
  | 84 => ⟨S1025x320, .f32⟩
  | 85 => ⟨S320x1280, .f32⟩
  | 86 => ⟨S320x1280, .f32⟩
  | 87 => ⟨S1280, .f32⟩
  | 88 => ⟨S320x320, .f32⟩
  | 89 => ⟨S320, .f32⟩
  | 90 => ⟨S_, .i32⟩
  | 91 => ⟨S_, .i32⟩
  | 92 => ⟨S32, .i32⟩
  | 93 => ⟨S32, .i32⟩
  | 94 => ⟨S32, .i32⟩
  | 95 => ⟨S32, .f32⟩
  | 96 => ⟨S32x128, .i32⟩
  | 97 => ⟨S32x320, .f32⟩
  | 98 => ⟨S32x320, .f32⟩
  | 99 => ⟨S32x320, .f32⟩
  | 100 => ⟨S_, .i32⟩
  | 101 => ⟨S_, .i1⟩
  | 102 => ⟨S_, .i32⟩
  | 103 => ⟨S_, .i32⟩
  | 104 => ⟨S32, .i1⟩
  | 105 => ⟨S_, .i32⟩
  | 106 => ⟨S_, .i32⟩
  | 107 => ⟨S_, .i32⟩
  | 108 => ⟨S32, .i32⟩
  | 109 => ⟨S32, .i32⟩
  | 110 => ⟨S_, .i32⟩
  | 111 => ⟨S32, .i32⟩
  | 112 => ⟨S32, .i32⟩
  | 113 => ⟨S_, .i32⟩
  | 114 => ⟨S32, .i32⟩
  | 115 => ⟨S32, .i1⟩
  | 116 => ⟨S_, .i32⟩
  | 117 => ⟨S32, .i32⟩
  | 118 => ⟨S32, .i32⟩
  | 119 => ⟨S32, .i32⟩
  | 120 => ⟨S_, .i32⟩
  | 121 => ⟨S32, .i32⟩
  | 122 => ⟨S32, .i1⟩
  | 123 => ⟨S_, .i32⟩
  | 124 => ⟨S32, .i32⟩
  | 125 => ⟨S32, .i32⟩
  | 126 => ⟨S32, .i32⟩
  | 127 => ⟨S32x1, .i32⟩
  | _ => ⟨S32x64x256, .f32⟩

abbrev hbmTy0_1 (i : Nat) : BufTy := match i % 128 with
  | 0 => ⟨S32x1, .i32⟩
  | 1 => ⟨S32x2, .i32⟩
  | 2 => ⟨S32x320, .f32⟩
  | 3 => ⟨S32x320, .f32⟩
  | 4 => ⟨S_, .f32⟩
  | 5 => ⟨S32x320, .f32⟩
  | 6 => ⟨S32x320, .f32⟩
  | 7 => ⟨S32x1025, .f32⟩
  | 8 => ⟨S1x1025, .f32⟩
  | 9 => ⟨S32x1025, .f32⟩
  | 10 => ⟨S32x1025, .f32⟩
  | 11 => ⟨S32x1, .f32⟩
  | 12 => ⟨S32x1, .i32⟩
  | 13 => ⟨S32, .i32⟩
  | 14 => ⟨S_, .f32⟩
  | 15 => ⟨S32, .f32⟩
  | 16 => ⟨S_, .i32⟩
  | 17 => ⟨S32, .i32⟩
  | 18 => ⟨S32, .i1⟩
  | 19 => ⟨S32, .i1⟩
  | 20 => ⟨S32, .i1⟩
  | 21 => ⟨S_, .i32⟩
  | 22 => ⟨S_, .i32⟩
  | 23 => ⟨S_, .i32⟩
  | 24 => ⟨S32, .i32⟩
  | 25 => ⟨S32, .i32⟩
  | 26 => ⟨S_, .i32⟩
  | 27 => ⟨S32, .i32⟩
  | 28 => ⟨S32, .i32⟩
  | 29 => ⟨S_, .i32⟩
  | 30 => ⟨S32, .i32⟩
  | 31 => ⟨S32, .i1⟩
  | 32 => ⟨S_, .i32⟩
  | 33 => ⟨S32, .i32⟩
  | 34 => ⟨S32, .i32⟩
  | 35 => ⟨S32, .i32⟩
  | 36 => ⟨S_, .i32⟩
  | 37 => ⟨S32, .i32⟩
  | 38 => ⟨S32, .i1⟩
  | 39 => ⟨S_, .i32⟩
  | 40 => ⟨S32, .i32⟩
  | 41 => ⟨S32, .i32⟩
  | 42 => ⟨S32, .i32⟩
  | 43 => ⟨S32x1, .i32⟩
  | 44 => ⟨S32x1, .i32⟩
  | 45 => ⟨S32x2, .i32⟩
  | 46 => ⟨S32, .i32⟩
  | 47 => ⟨S32, .i32⟩
  | 48 => ⟨S_, .i32⟩
  | 49 => ⟨S32, .i32⟩
  | 50 => ⟨S32, .i1⟩
  | 51 => ⟨S_, .i32⟩
  | 52 => ⟨S32, .i32⟩
  | 53 => ⟨S32, .i32⟩
  | 54 => ⟨S32, .i32⟩
  | 55 => ⟨S_, .i32⟩
  | 56 => ⟨S32, .i32⟩
  | 57 => ⟨S32, .i1⟩
  | 58 => ⟨S_, .i32⟩
  | 59 => ⟨S32, .i32⟩
  | 60 => ⟨S32, .i32⟩
  | 61 => ⟨S32, .i32⟩
  | 62 => ⟨S32x1, .i32⟩
  | 63 => ⟨S32x1, .i32⟩
  | 64 => ⟨S32x2, .i32⟩
  | 65 => ⟨S32x128, .i32⟩
  | 66 => ⟨S32, .i32⟩
  | 67 => ⟨S32, .i32⟩
  | 68 => ⟨S_, .f32⟩
  | 69 => ⟨S32, .f32⟩
  | 70 => ⟨S32, .f32⟩
  | 71 => ⟨S32, .f32⟩
  | 72 => ⟨S_, .i32⟩
  | 73 => ⟨S32, .i32⟩
  | 74 => ⟨S32, .i1⟩
  | 75 => ⟨S_, .i32⟩
  | 76 => ⟨S32, .i32⟩
  | 77 => ⟨S32, .i32⟩
  | 78 => ⟨S32, .i32⟩
  | 79 => ⟨S32x1, .i32⟩
  | 80 => ⟨S32x320, .f32⟩
  | 81 => ⟨S32x1280, .f32⟩
  | 82 => ⟨S32x1280, .f32⟩
  | 83 => ⟨S32x1280, .f32⟩
  | 84 => ⟨S1x1280, .f32⟩
  | 85 => ⟨S32x1280, .f32⟩
  | 86 => ⟨S32x1280, .f32⟩
  | 87 => ⟨S32x320, .f32⟩
  | 88 => ⟨S32x320, .f32⟩
  | 89 => ⟨S32x320, .f32⟩
  | 90 => ⟨S32x320, .f32⟩
  | 91 => ⟨S32x320, .f32⟩
  | 92 => ⟨S32x320, .f32⟩
  | 93 => ⟨S_, .f32⟩
  | 94 => ⟨S32x320, .f32⟩
  | 95 => ⟨S32x320, .f32⟩
  | 96 => ⟨S_, .f32⟩
  | 97 => ⟨S32x320, .f32⟩
  | 98 => ⟨S32x320, .f32⟩
  | 99 => ⟨S32x320, .f32⟩
  | 100 => ⟨S32x320, .f32⟩
  | 101 => ⟨S32x320, .f32⟩
  | 102 => ⟨S_, .f32⟩
  | 103 => ⟨S32x320, .f32⟩
  | 104 => ⟨S32x320, .f32⟩
  | 105 => ⟨S_, .f32⟩
  | 106 => ⟨S32x320, .f32⟩
  | 107 => ⟨S32x320, .f32⟩
  | 108 => ⟨S32x320, .f32⟩
  | 109 => ⟨S32x320, .f32⟩
  | 110 => ⟨S32x320, .f32⟩
  | 111 => ⟨S32x320, .f32⟩
  | 112 => ⟨S32x320, .f32⟩
  | 113 => ⟨S_, .f32⟩
  | 114 => ⟨S32x320, .f32⟩
  | 115 => ⟨S32x320, .f32⟩
  | 116 => ⟨S_, .f32⟩
  | 117 => ⟨S32x320, .f32⟩
  | 118 => ⟨S32x320, .f32⟩
  | 119 => ⟨S32x320, .f32⟩
  | 120 => ⟨S32x320, .f32⟩
  | 121 => ⟨S32x320, .f32⟩
  | 122 => ⟨S1x320, .f32⟩
  | 123 => ⟨S32x320, .f32⟩
  | 124 => ⟨S32x320, .f32⟩
  | 125 => ⟨S32x1, .i1⟩
  | 126 => ⟨S32x320, .i1⟩
  | 127 => ⟨S32x320, .f32⟩
  | _ => ⟨S32x64x256, .f32⟩

abbrev hbmTy0_2 (i : Nat) : BufTy := match i % 128 with
  | 0 => ⟨S32x320, .i1⟩
  | 1 => ⟨S32x320, .f32⟩
  | 2 => ⟨S32x320, .i1⟩
  | 3 => ⟨S32x320, .f32⟩
  | 4 => ⟨S_, .i32⟩
  | 5 => ⟨S32, .i32⟩
  | 6 => ⟨S32, .i32⟩
  | 7 => ⟨S32, .i32⟩
  | 8 => ⟨S_, .i32⟩
  | 9 => ⟨S32, .i32⟩
  | 10 => ⟨S32, .i1⟩
  | 11 => ⟨S32, .i1⟩
  | 12 => ⟨S32, .i1⟩
  | 13 => ⟨S_, .i32⟩
  | 14 => ⟨S32, .i32⟩
  | 15 => ⟨S32, .i32⟩
  | 16 => ⟨S32, .i32⟩
  | 17 => ⟨S32, .i32⟩
  | 18 => ⟨S_, .i32⟩
  | 19 => ⟨S_, .i32⟩
  | _ => ⟨S32x64x256, .f32⟩

abbrev hbmTy (i : Nat) : BufTy := match i / 128 with
  | 0 => hbmTy0_0 i
  | 1 => hbmTy0_1 i
  | 2 => hbmTy0_2 i
  | _ => ⟨S32x64x256, .f32⟩

abbrev bufTy : (tb : Table) → Fin (tcTables nBuf tb) → BufTy
  | .hbm, ⟨i, _⟩ => hbmTy i
  | _, _ => ⟨S32x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_c_13 : Ref sig .tc := ⟨.hbm, 78, rfl⟩
abbrev main_v51_0 : Ref sig .tc := ⟨.hbm, 79, rfl⟩
abbrev main_v51_1 : Ref sig .tc := ⟨.hbm, 80, rfl⟩
abbrev main_v51_2 : Ref sig .tc := ⟨.hbm, 81, rfl⟩
abbrev main_v51_3 : Ref sig .tc := ⟨.hbm, 82, rfl⟩
abbrev main_v51_4 : Ref sig .tc := ⟨.hbm, 83, rfl⟩
abbrev main_v51_5 : Ref sig .tc := ⟨.hbm, 84, rfl⟩
abbrev main_v51_6 : Ref sig .tc := ⟨.hbm, 85, rfl⟩
abbrev main_v51_7 : Ref sig .tc := ⟨.hbm, 86, rfl⟩
abbrev main_v51_8 : Ref sig .tc := ⟨.hbm, 87, rfl⟩
abbrev main_v51_9 : Ref sig .tc := ⟨.hbm, 88, rfl⟩
abbrev main_v51_10 : Ref sig .tc := ⟨.hbm, 89, rfl⟩
abbrev main_v51_11 : Ref sig .tc := ⟨.hbm, 90, rfl⟩
abbrev main_v51_12 : Ref sig .tc := ⟨.hbm, 91, rfl⟩
abbrev main_v51_13 : Ref sig .tc := ⟨.hbm, 92, rfl⟩
abbrev main_v51_14 : Ref sig .tc := ⟨.hbm, 93, rfl⟩
abbrev main_v51_15 : Ref sig .tc := ⟨.hbm, 94, rfl⟩
abbrev main_v51_16 : Ref sig .tc := ⟨.hbm, 95, rfl⟩
abbrev main_v51_17 : Ref sig .tc := ⟨.hbm, 96, rfl⟩
abbrev main_v51_18 : Ref sig .tc := ⟨.hbm, 97, rfl⟩
abbrev main_v51_19 : Ref sig .tc := ⟨.hbm, 98, rfl⟩
abbrev main_v51_20 : Ref sig .tc := ⟨.hbm, 99, rfl⟩
abbrev main_while0c_c_34 : Ref sig .tc := ⟨.hbm, 100, rfl⟩
abbrev main_while0c_v52 : Ref sig .tc := ⟨.hbm, 101, rfl⟩
abbrev main_while0b_c_34 : Ref sig .tc := ⟨.hbm, 102, rfl⟩
abbrev main_while0b_v52 : Ref sig .tc := ⟨.hbm, 103, rfl⟩
abbrev main_while0b_v53 : Ref sig .tc := ⟨.hbm, 104, rfl⟩
abbrev main_while0b_c_35 : Ref sig .tc := ⟨.hbm, 105, rfl⟩
abbrev main_while0b_c_36 : Ref sig .tc := ⟨.hbm, 106, rfl⟩
abbrev main_while0b_call0_v0 : Ref sig .tc := ⟨.hbm, 107, rfl⟩
abbrev main_while0b_call0_v1 : Ref sig .tc := ⟨.hbm, 108, rfl⟩
abbrev main_while0b_call0_v2 : Ref sig .tc := ⟨.hbm, 109, rfl⟩
abbrev main_while0b_call0_v3 : Ref sig .tc := ⟨.hbm, 110, rfl⟩
abbrev main_while0b_call0_v4 : Ref sig .tc := ⟨.hbm, 111, rfl⟩
abbrev main_while0b_v54 : Ref sig .tc := ⟨.hbm, 112, rfl⟩
abbrev main_while0b_c_37 : Ref sig .tc := ⟨.hbm, 113, rfl⟩
abbrev main_while0b_v55 : Ref sig .tc := ⟨.hbm, 114, rfl⟩
abbrev main_while0b_v56 : Ref sig .tc := ⟨.hbm, 115, rfl⟩
abbrev main_while0b_c_38 : Ref sig .tc := ⟨.hbm, 116, rfl⟩
abbrev main_while0b_v57 : Ref sig .tc := ⟨.hbm, 117, rfl⟩
abbrev main_while0b_v58 : Ref sig .tc := ⟨.hbm, 118, rfl⟩
abbrev main_while0b_v59 : Ref sig .tc := ⟨.hbm, 119, rfl⟩
abbrev main_while0b_c_39 : Ref sig .tc := ⟨.hbm, 120, rfl⟩
abbrev main_while0b_v60 : Ref sig .tc := ⟨.hbm, 121, rfl⟩
abbrev main_while0b_v61 : Ref sig .tc := ⟨.hbm, 122, rfl⟩
abbrev main_while0b_c_40 : Ref sig .tc := ⟨.hbm, 123, rfl⟩
abbrev main_while0b_v62 : Ref sig .tc := ⟨.hbm, 124, rfl⟩
abbrev main_while0b_v63 : Ref sig .tc := ⟨.hbm, 125, rfl⟩
abbrev main_while0b_v64 : Ref sig .tc := ⟨.hbm, 126, rfl⟩
abbrev main_while0b_v65 : Ref sig .tc := ⟨.hbm, 127, rfl⟩
abbrev main_while0b_v66 : Ref sig .tc := ⟨.hbm, 128, rfl⟩
abbrev main_while0b_v67 : Ref sig .tc := ⟨.hbm, 129, rfl⟩
abbrev main_while0b_v68 : Ref sig .tc := ⟨.hbm, 130, rfl⟩
abbrev main_while0b_v69 : Ref sig .tc := ⟨.hbm, 131, rfl⟩
abbrev main_while0b_call1_cst : Ref sig .tc := ⟨.hbm, 132, rfl⟩
abbrev main_while0b_call1_v0 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_values : Ref sig .tc := ⟨.hbm, 139, rfl⟩
abbrev main_while0b_indices : Ref sig .tc := ⟨.hbm, 140, rfl⟩
abbrev main_while0b_v75 : Ref sig .tc := ⟨.hbm, 141, rfl⟩
abbrev main_while0b_cst_41 : Ref sig .tc := ⟨.hbm, 142, rfl⟩
abbrev main_while0b_v76 : Ref sig .tc := ⟨.hbm, 143, rfl⟩
abbrev main_while0b_c_42 : Ref sig .tc := ⟨.hbm, 144, rfl⟩
abbrev main_while0b_v77 : Ref sig .tc := ⟨.hbm, 145, rfl⟩
abbrev main_while0b_v78 : Ref sig .tc := ⟨.hbm, 146, rfl⟩
abbrev main_while0b_v79 : Ref sig .tc := ⟨.hbm, 147, rfl⟩
abbrev main_while0b_v80 : Ref sig .tc := ⟨.hbm, 148, rfl⟩
abbrev main_while0b_c_43 : Ref sig .tc := ⟨.hbm, 149, rfl⟩
abbrev main_while0b_c_44 : Ref sig .tc := ⟨.hbm, 150, rfl⟩
abbrev main_while0b_call2_v0 : Ref sig .tc := ⟨.hbm, 151, rfl⟩
abbrev main_while0b_call2_v1 : Ref sig .tc := ⟨.hbm, 152, rfl⟩
abbrev main_while0b_call2_v2 : Ref sig .tc := ⟨.hbm, 153, rfl⟩
abbrev main_while0b_call2_v3 : Ref sig .tc := ⟨.hbm, 154, rfl⟩
abbrev main_while0b_call2_v4 : Ref sig .tc := ⟨.hbm, 155, rfl⟩
abbrev main_while0b_v81 : Ref sig .tc := ⟨.hbm, 156, rfl⟩
abbrev main_while0b_c_45 : Ref sig .tc := ⟨.hbm, 157, rfl⟩
abbrev main_while0b_v82 : Ref sig .tc := ⟨.hbm, 158, rfl⟩
abbrev main_while0b_v83 : Ref sig .tc := ⟨.hbm, 159, rfl⟩
abbrev main_while0b_c_46 : Ref sig .tc := ⟨.hbm, 160, rfl⟩
abbrev main_while0b_v84 : Ref sig .tc := ⟨.hbm, 161, rfl⟩
abbrev main_while0b_v85 : Ref sig .tc := ⟨.hbm, 162, rfl⟩
abbrev main_while0b_v86 : Ref sig .tc := ⟨.hbm, 163, rfl⟩
abbrev main_while0b_c_47 : Ref sig .tc := ⟨.hbm, 164, rfl⟩
abbrev main_while0b_v87 : Ref sig .tc := ⟨.hbm, 165, rfl⟩
abbrev main_while0b_v88 : Ref sig .tc := ⟨.hbm, 166, rfl⟩
abbrev main_while0b_c_48 : Ref sig .tc := ⟨.hbm, 167, rfl⟩
abbrev main_while0b_v89 : Ref sig .tc := ⟨.hbm, 168, rfl⟩
abbrev main_while0b_v90 : Ref sig .tc := ⟨.hbm, 169, rfl⟩
abbrev main_while0b_v91 : Ref sig .tc := ⟨.hbm, 170, rfl⟩
abbrev main_while0b_v92 : Ref sig .tc := ⟨.hbm, 171, rfl⟩
abbrev main_while0b_v93 : Ref sig .tc := ⟨.hbm, 172, rfl⟩
abbrev main_while0b_v94 : Ref sig .tc := ⟨.hbm, 173, rfl⟩
abbrev main_while0b_v95 : Ref sig .tc := ⟨.hbm, 174, rfl⟩
abbrev main_while0b_v96 : Ref sig .tc := ⟨.hbm, 175, rfl⟩
abbrev main_while0b_c_49 : Ref sig .tc := ⟨.hbm, 176, rfl⟩
abbrev main_while0b_v97 : Ref sig .tc := ⟨.hbm, 177, rfl⟩
abbrev main_while0b_v98 : Ref sig .tc := ⟨.hbm, 178, rfl⟩
abbrev main_while0b_c_50 : Ref sig .tc := ⟨.hbm, 179, rfl⟩
abbrev main_while0b_v99 : Ref sig .tc := ⟨.hbm, 180, rfl⟩
abbrev main_while0b_v100 : Ref sig .tc := ⟨.hbm, 181, rfl⟩
abbrev main_while0b_v101 : Ref sig .tc := ⟨.hbm, 182, rfl⟩
abbrev main_while0b_c_51 : Ref sig .tc := ⟨.hbm, 183, rfl⟩
abbrev main_while0b_v102 : Ref sig .tc := ⟨.hbm, 184, rfl⟩
abbrev main_while0b_v103 : Ref sig .tc := ⟨.hbm, 185, rfl⟩
abbrev main_while0b_c_52 : Ref sig .tc := ⟨.hbm, 186, rfl⟩
abbrev main_while0b_v104 : Ref sig .tc := ⟨.hbm, 187, rfl⟩
abbrev main_while0b_v105 : Ref sig .tc := ⟨.hbm, 188, rfl⟩
abbrev main_while0b_v106 : Ref sig .tc := ⟨.hbm, 189, rfl⟩
abbrev main_while0b_v107 : Ref sig .tc := ⟨.hbm, 190, rfl⟩
abbrev main_while0b_v108 : Ref sig .tc := ⟨.hbm, 191, rfl⟩
abbrev main_while0b_v109 : Ref sig .tc := ⟨.hbm, 192, rfl⟩
abbrev main_while0b_v110 : Ref sig .tc := ⟨.hbm, 193, rfl⟩
abbrev main_while0b_v111 : Ref sig .tc := ⟨.hbm, 194, rfl⟩
abbrev main_while0b_v112 : Ref sig .tc := ⟨.hbm, 195, rfl⟩
abbrev main_while0b_cst_53 : Ref sig .tc := ⟨.hbm, 196, rfl⟩
abbrev main_while0b_call4_v0 : Ref sig .tc := ⟨.hbm, 197, rfl⟩
abbrev main_while0b_v113 : Ref sig .tc := ⟨.hbm, 198, rfl⟩
abbrev main_while0b_v114 : Ref sig .tc := ⟨.hbm, 199, rfl⟩
abbrev main_while0b_c_54 : Ref sig .tc := ⟨.hbm, 200, rfl⟩
abbrev main_while0b_v115 : Ref sig .tc := ⟨.hbm, 201, rfl⟩
abbrev main_while0b_v116 : Ref sig .tc := ⟨.hbm, 202, rfl⟩
abbrev main_while0b_c_55 : Ref sig .tc := ⟨.hbm, 203, rfl⟩
abbrev main_while0b_v117 : Ref sig .tc := ⟨.hbm, 204, rfl⟩
abbrev main_while0b_v118 : Ref sig .tc := ⟨.hbm, 205, rfl⟩
abbrev main_while0b_v119 : Ref sig .tc := ⟨.hbm, 206, rfl⟩
abbrev main_while0b_v120 : Ref sig .tc := ⟨.hbm, 207, rfl⟩
abbrev main_while0b_v121 : Ref sig .tc := ⟨.hbm, 208, rfl⟩
abbrev main_while0b_v122 : Ref sig .tc := ⟨.hbm, 209, rfl⟩
abbrev main_while0b_v123 : Ref sig .tc := ⟨.hbm, 210, rfl⟩
abbrev main_while0b_v124 : Ref sig .tc := ⟨.hbm, 211, rfl⟩
abbrev main_while0b_v125 : Ref sig .tc := ⟨.hbm, 212, rfl⟩
abbrev main_while0b_v126 : Ref sig .tc := ⟨.hbm, 213, rfl⟩
abbrev main_while0b_v127 : Ref sig .tc := ⟨.hbm, 214, rfl⟩
abbrev main_while0b_v128 : Ref sig .tc := ⟨.hbm, 215, rfl⟩
abbrev main_while0b_v129 : Ref sig .tc := ⟨.hbm, 216, rfl⟩
abbrev main_while0b_v130 : Ref sig .tc := ⟨.hbm, 217, rfl⟩
abbrev main_while0b_v131 : Ref sig .tc := ⟨.hbm, 218, rfl⟩
abbrev main_while0b_v132 : Ref sig .tc := ⟨.hbm, 219, rfl⟩
abbrev main_while0b_v133 : Ref sig .tc := ⟨.hbm, 220, rfl⟩
abbrev main_while0b_cst_56 : Ref sig .tc := ⟨.hbm, 221, rfl⟩
abbrev main_while0b_v134 : Ref sig .tc := ⟨.hbm, 222, rfl⟩
abbrev main_while0b_v135 : Ref sig .tc := ⟨.hbm, 223, rfl⟩
abbrev main_while0b_cst_57 : Ref sig .tc := ⟨.hbm, 224, rfl⟩
abbrev main_while0b_v136 : Ref sig .tc := ⟨.hbm, 225, rfl⟩
abbrev main_while0b_v137 : Ref sig .tc := ⟨.hbm, 226, rfl⟩
abbrev main_while0b_v138 : Ref sig .tc := ⟨.hbm, 227, rfl⟩
abbrev main_while0b_v139 : Ref sig .tc := ⟨.hbm, 228, rfl⟩
abbrev main_while0b_v140 : Ref sig .tc := ⟨.hbm, 229, rfl⟩
abbrev main_while0b_cst_58 : Ref sig .tc := ⟨.hbm, 230, rfl⟩
abbrev main_while0b_v141 : Ref sig .tc := ⟨.hbm, 231, rfl⟩
abbrev main_while0b_v142 : Ref sig .tc := ⟨.hbm, 232, rfl⟩
abbrev main_while0b_cst_59 : Ref sig .tc := ⟨.hbm, 233, rfl⟩
abbrev main_while0b_v143 : Ref sig .tc := ⟨.hbm, 234, rfl⟩
abbrev main_while0b_v144 : Ref sig .tc := ⟨.hbm, 235, rfl⟩
abbrev main_while0b_v145 : Ref sig .tc := ⟨.hbm, 236, rfl⟩
abbrev main_while0b_v146 : Ref sig .tc := ⟨.hbm, 237, rfl⟩
abbrev main_while0b_v147 : Ref sig .tc := ⟨.hbm, 238, rfl⟩
abbrev main_while0b_v148 : Ref sig .tc := ⟨.hbm, 239, rfl⟩
abbrev main_while0b_v149 : Ref sig .tc := ⟨.hbm, 240, rfl⟩
abbrev main_while0b_cst_60 : Ref sig .tc := ⟨.hbm, 241, rfl⟩
abbrev main_while0b_v150 : Ref sig .tc := ⟨.hbm, 242, rfl⟩
abbrev main_while0b_v151 : Ref sig .tc := ⟨.hbm, 243, rfl⟩
abbrev main_while0b_cst_61 : Ref sig .tc := ⟨.hbm, 244, rfl⟩
abbrev main_while0b_v152 : Ref sig .tc := ⟨.hbm, 245, rfl⟩
abbrev main_while0b_v153 : Ref sig .tc := ⟨.hbm, 246, rfl⟩
abbrev main_while0b_v154 : Ref sig .tc := ⟨.hbm, 247, rfl⟩
abbrev main_while0b_v155 : Ref sig .tc := ⟨.hbm, 248, rfl⟩
abbrev main_while0b_v156 : Ref sig .tc := ⟨.hbm, 249, rfl⟩
abbrev main_while0b_v157 : Ref sig .tc := ⟨.hbm, 250, rfl⟩
abbrev main_while0b_v158 : Ref sig .tc := ⟨.hbm, 251, rfl⟩
abbrev main_while0b_v159 : Ref sig .tc := ⟨.hbm, 252, rfl⟩
abbrev main_while0b_v160 : Ref sig .tc := ⟨.hbm, 253, rfl⟩
abbrev main_while0b_call5_v0 : Ref sig .tc := ⟨.hbm, 254, rfl⟩
abbrev main_while0b_v161 : Ref sig .tc := ⟨.hbm, 255, rfl⟩
abbrev main_while0b_call6_v0 : Ref sig .tc := ⟨.hbm, 256, rfl⟩
abbrev main_while0b_v162 : Ref sig .tc := ⟨.hbm, 257, rfl⟩
abbrev main_while0b_call7_v0 : Ref sig .tc := ⟨.hbm, 258, rfl⟩
abbrev main_while0b_v163 : Ref sig .tc := ⟨.hbm, 259, rfl⟩
abbrev main_while0b_c_62 : Ref sig .tc := ⟨.hbm, 260, rfl⟩
abbrev main_while0b_v164 : Ref sig .tc := ⟨.hbm, 261, rfl⟩
abbrev main_while0b_v165 : Ref sig .tc := ⟨.hbm, 262, rfl⟩
abbrev main_while0b_v166 : Ref sig .tc := ⟨.hbm, 263, rfl⟩
abbrev main_while0b_c_63 : Ref sig .tc := ⟨.hbm, 264, rfl⟩
abbrev main_while0b_v167 : Ref sig .tc := ⟨.hbm, 265, rfl⟩
abbrev main_while0b_v168 : Ref sig .tc := ⟨.hbm, 266, rfl⟩
abbrev main_while0b_v169 : Ref sig .tc := ⟨.hbm, 267, rfl⟩
abbrev main_while0b_v170 : Ref sig .tc := ⟨.hbm, 268, rfl⟩
abbrev main_while0b_c_64 : Ref sig .tc := ⟨.hbm, 269, rfl⟩
abbrev main_while0b_call9_v0 : Ref sig .tc := ⟨.hbm, 270, rfl⟩
abbrev main_while0b_v171 : Ref sig .tc := ⟨.hbm, 271, rfl⟩
abbrev main_while0b_v172 : Ref sig .tc := ⟨.hbm, 272, rfl⟩
abbrev main_while0b_v173 : Ref sig .tc := ⟨.hbm, 273, rfl⟩
abbrev main_while0b_c_65 : Ref sig .tc := ⟨.hbm, 274, rfl⟩
abbrev main_while0b_v174 : Ref sig .tc := ⟨.hbm, 275, rfl⟩

abbrev nD : Nat := 1
abbrev τ : Topo := Topo.v7x

variable {F : FTy → Type} [FloatOps F]

abbrev main_while0_count : Scf.Loop 32 := ⟨0#32, 192#32, 1#32⟩
-- ==== Proof.Step.lean ====
module

public import proofs.«01_k».proof.KernelIdeal
public import proofs.«01_k».proof.Proof.Gen.KernelIdeal.Skeleton
public import Idealize.ShloMosaic.Lib.Pointwise
public import Idealize.ShloMosaic.Lib.Pipeline.Value

/-! One decode step of the kernel as a pure function of the values the loop carries. -/

@[expose] public section

noncomputable section

namespace Cert.Proof.KI

open Cert.KernelIdeal Cert.KernelIdeal.Gen
open Idealize.ShloMosaic

variable {F : FTy → Type} [FloatOps F]

/-- What the loop carries: frame index, symbols written, symbols in this frame, score, the two cell states,
    the projected decoder state, and the projected frame. -/
abbrev Acc (F : FTy → Type) [FloatOps F] : Type :=
  IVec S32x1 32 × IVec S32x1 32 × IVec S32x1 32 × FVec F S32x1 .f32 × FVec F S32x320 .bf16 × FVec F S32x320 .f32
    × FVec F S32x320 .f32 × FVec F S32x320 .f32

/-- The projected frames picked by one word per row. -/
def frames (x : Vec F S32x64x320 .f32) (w : IVec S32x1 32) : FVec F S32x320 .f32 :=
  fun j => x (ix3 (j 0) (⟨(w (ix2 (j 0) 0)).toNat % 64, Nat.mod_lt _ (by decide)⟩ : Fin 64) (j 1))

section
variable (v11 : Vec F S32x1 .i32) (v13 : IVec S32x1025 32) (f7 : Vec F S320x1025 .bf16) (a : Acc F)

/-- The label each row picks. -/
def label : IVec S32x1 32 := k0_pay15 v13 a.2.2.2.2.2.2.1 a.2.2.2.2.2.2.2 f7
/-- The rows that write a symbol. -/
def emits : IVec S32x1 1 := k0_pay17 (k0_pay4 v11) v13 a.1 a.2.2.2.2.2.2.1 a.2.2.2.2.2.2.2 f7
/-- The rows still decoding. -/
def live : IVec S32x1 1 := k0_pay12 (k0_pay4 v11) a.1
/-- The rows that picked the blank. -/
def blank : IVec S32x1 1 := k0_pay16 v13 a.2.2.2.2.2.2.1 a.2.2.2.2.2.2.2 f7
/-- The words naming the next frame of each row. -/
def words : IVec S32x1 32 :=
  k0_pay26 a.1 a.2.2.1 (live v11 a) (blank v13 f7 a) (emits v11 v13 f7 a) (k0_pay21 a.2.2.1)

/-- The carried values after one step. -/
def stepAcc (f3 : Vec F S1025x320 .bf16) (f4 f5 : Vec F S320x1280 .bf16) (f6 : Vec F S320x320 .bf16) (x : Vec F S32x64x320 .f32) : Acc F :=
  (k0_pay25 a.1 a.2.2.1 (live v11 a) (blank v13 f7 a) (emits v11 v13 f7 a) (k0_pay21 a.2.2.1),
   k0_pay19 (k0_pay4 v11) v13 a.1 a.2.1 a.2.2.2.2.2.2.1 a.2.2.2.2.2.2.2 f7,
   k0_pay24 a.2.2.1 (live v11 a) (blank v13 f7 a) (emits v11 v13 f7 a) (k0_pay21 a.2.2.1),
   k0_pay20 (k0_pay4 v11) v13 a.1 a.2.2.2.1 a.2.2.2.2.2.2.1 a.2.2.2.2.2.2.2 f7,
   k0_pay31 a.2.2.2.2.1 (emits v11 v13 f7 a)
     (k0_pay28 v13 a.2.2.2.2.1 a.2.2.2.2.2.1 (label v13 f7 a) f3 f4 f5) (k0_pay29 v13 a.2.2.2.2.1 (label v13 f7 a) f3 f4 f5),
   k0_pay32 a.2.2.2.2.2.1 (emits v11 v13 f7 a)
     (k0_pay28 v13 a.2.2.2.2.1 a.2.2.2.2.2.1 (label v13 f7 a) f3 f4 f5),
   k0_pay33 a.2.2.2.2.2.2.1 (emits v11 v13 f7 a)
     (k0_pay28 v13 a.2.2.2.2.1 a.2.2.2.2.2.1 (label v13 f7 a) f3 f4 f5) (k0_pay29 v13 a.2.2.2.2.1 (label v13 f7 a) f3 f4 f5) f6,
   frames x (words v11 v13 f7 a))

/-- The written symbols after one step. -/
def stepHyps (v14 : IVec S32x128 32) (hyps : Vec F S32x128 .i32) : Vec F S32x128 .i32 :=
  k0_pay18 (k0_pay4 v11) v13 v14 a.1 a.2.1 a.2.2.2.2.2.2.1 a.2.2.2.2.2.2.2 f7 hyps

end

/-- The 32 rows laid one under the other, read at an index. -/
theorem rows_apply (r : Fin 32 → Vec F S1x1x320 .f32) (j : S32x320.Idx)  :
    k0_pay11 (k0_pay34 (r 0)) (k0_pay35 (r 1)) (k0_pay36 (r 2)) (k0_pay37 (r 3)) (k0_pay38 (r 4)) (k0_pay39 (r 5)) (k0_pay40 (r 6)) (k0_pay41 (r 7))
      (k0_pay42 (r 8)) (k0_pay43 (r 9)) (k0_pay44 (r 10)) (k0_pay45 (r 11)) (k0_pay46 (r 12)) (k0_pay47 (r 13)) (k0_pay48 (r 14)) (k0_pay49 (r 15))
      (k0_pay50 (r 16)) (k0_pay51 (r 17)) (k0_pay52 (r 18)) (k0_pay53 (r 19)) (k0_pay54 (r 20)) (k0_pay55 (r 21)) (k0_pay56 (r 22)) (k0_pay57 (r 23))
      (k0_pay58 (r 24)) (k0_pay59 (r 25)) (k0_pay60 (r 26)) (k0_pay61 (r 27)) (k0_pay62 (r 28)) (k0_pay63 (r 29)) (k0_pay64 (r 30)) (r 31) j
      = r (j 0) (ix3 0 0 (j 1)) := by
  have h := concatenate_ofFn_unit_apply (t := S32x320) (s₁ := S1x320) 0
    (fun n : Fin 32 => shapeCast S1x320 (r n) shapeCasts_S1x1x320_S1x320) concatenates_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S1x320_S32x320_d0
    rfl rfl j (j 0) rfl (ix2 0 (j 1)) (by
      intro b hb
      fin_cases b
      · exact absurd rfl hb
      · rfl)
  refine Eq.trans h ?_
  show shapeCast S1x320 (r (j 0)) shapeCasts_S1x1x320_S1x320 (ix2 0 (j 1)) = _
  generalize r (j 0) = q
  pointwise

end Cert.Proof.KI
end
-- ==== Proof.Held.lean ====
/- A whole memref held at the contents that read `X`: what a load of all of it reads, and what it holds after a store
   over all of it. -/
module

public import Idealize.ShloMosaic.Lib.VecWindow
public import Idealize.ShloMosaic.Lib.WholeRead

@[expose] public section

namespace Cert.Proof

open Idealize.ShloMosaic

variable {sig : RefSig} {Val : EltTy → Type} {κ : Kind} {sp : Space} {s : Shape} {e : EltTy} {m : Memref sig κ sp s e}

/-- A load of the whole memref reads what it is held at. -/
theorem load_held (h : m.IsWhole) (X : s.Idx → Val e) {off : Fin s.rank → ℕ} (inb : ∀ a, off a + s.size a ≤ s.size a) :
    m.view.readAt Val (Rect.unit off s.size inb).toLoadRect (h.unread X) = X :=
  (View.readAt_full m.view _ inb).trans (h.read_unread X)

/-- After a store over the whole memref it is held at what was stored. -/
theorem store_held (h : m.IsWhole) (f : m.view.ty.Contents Val) {off : Fin s.rank → ℕ} (inb : ∀ a, off a + s.size a ≤ s.size a)
    (w : (Rect.unit off s.size inb).shape.Idx → Val e) (L : List (View.Piece Val s e)) :
    m.view.writes Val f (⟨Rect.unit off s.size inb, w⟩ :: L) = h.unread w :=
  h.eq_unread (View.read_writes_full m.view f inb w L)

end Cert.Proof
-- ==== Proof.Trip.lean ====
module

public import proofs.«01_k».proof.KernelIdeal
public import proofs.«01_k».proof.Proof.Gen.KernelIdeal.Frame
public import proofs.«01_k».proof.Proof.Gen.KernelIdeal.Loops
public import Idealize.ShloMosaic.Lib.VecWindow
public import proofs.«01_k».proof.Proof.Step
public import proofs.«01_k».proof.Proof.Held

/-! One trip of the decode loop, run on the machine. -/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-- Memref `M`'s buffer on core `c`, held whole at the contents that read `X`. -/
abbrev at_ (c : Dev nD) {sp : Space} {S : Shape} {e : EltTy} (M : Memref sig .tc sp S e) (h : M.IsWhole) (X : S.Idx → Elt F e) : sProp 𝕄 :=
  M.view.loc (c : Thread nD τ) ↦{fullShare} h.unread X

variable (c : Dev nD) (arg0 : Memref sig .tc .vmem S2048x256 .bf16) (harg0 : arg0.IsWhole) (arg1 : Memref sig .tc .vmem S32x1 .i32) (harg1 : arg1.IsWhole) (arg2 : Memref sig .tc .vmem S256x320 .bf16) (harg2 : arg2.IsWhole) (arg3 : Memref sig .tc .vmem S1025x320 .bf16) (harg3 : arg3.IsWhole) (arg4 : Memref sig .tc .vmem S320x1280 .bf16) (harg4 : arg4.IsWhole) (arg5 : Memref sig .tc .vmem S320x1280 .bf16) (harg5 : arg5.IsWhole) (arg6 : Memref sig .tc .vmem S320x320 .bf16) (harg6 : arg6.IsWhole) (arg7 : Memref sig .tc .vmem S320x1025 .bf16) (harg7 : arg7.IsWhole) (arg8 : Memref sig .tc .vmem S32x128 .i32) (harg8 : arg8.IsWhole) (arg9 : Memref sig .tc .vmem S32x1 .i32) (harg9 : arg9.IsWhole) (arg10 : Memref sig .tc .vmem S32x1 .f32) (harg10 : arg10.IsWhole) (arg11 : Memref sig .tc .vmem S32x64x320 .f32) (harg11 : arg11.IsWhole) (arg12 : Memref sig .tc .vmem S32x1 .i32) (harg12 : arg12.IsWhole) (arg13 : Memref sig .tc .smem S32x1 .i32) (harg13 : arg13.IsWhole) (arg14 : DmaSems sig S_)

/-- A condition at equal values. -/
theorem post_eq {α : Type} {T T' : α} (Q : α → sProp (MT nD τ sig Unit (Elt F) ℕ (UR sig nD τ × Counters) ℕ)) (h : T = T') : Q T' ⊢ Q T :=
  h ▸ .rfl

/-- A window of one row of the scratch at a frame index below its length lies inside it. -/
theorem row_inb (b : Nat) (hb : b < 32) (w : BitVec 32) (hw : w.toNat < 64) :
    ∀ a, (![b, w.toNat, 0] : Fin 3 → Nat) a + S1x1x320.size a ≤ S32x64x320.size a := by
  intro a
  fin_cases a
  · show b + 1 ≤ 32; omega
  · show w.toNat + 1 ≤ 64; omega
  · show 0 + 320 ≤ 320; omega

/-- A word of a memref filled from a vector of words below 64 is below 64. -/
theorem word_lt {sp : Space} (m : Memref sig .tc sp S32x1 .i32) (f : m.view.ty.Contents (Elt F)) (X : S32x1.Idx → Elt F .i32)
    (hX : ∀ i, (X i : BitVec 32).toNat < 64) (R : LoadRect S32x1) (x : R.shape.Idx) :
    (m.view.readAt (Elt F) R (m.view.write (Elt F) f X Finset.univ) x : BitVec 32).toNat < 64 := by
  have h : m.view.readAt (Elt F) R (m.view.write (Elt F) f X Finset.univ) x = X (R.idx x) :=
    congrFun (View.read_write_univ f X) (R.idx x)
  rw [h]; exact hX _

/-- A word clipped to the frames is below their number. -/
theorem clip_lt (x : BitVec 32) : (IntOp.minsi 63#32 (IntOp.maxsi 0#32 x)).toNat < 64 := by
  have h : (IntOp.minsi 63#32 (IntOp.maxsi 0#32 x)).slt 64#32 = true ∧ (0#32).sle (IntOp.minsi 63#32 (IntOp.maxsi 0#32 x)) = true := by
    unfold IntOp.minsi IntOp.maxsi
    split_ifs <;> simp_all [BitVec.slt, BitVec.sle] <;> omega
  obtain ⟨h1, h2⟩ := h
  simp only [BitVec.slt, BitVec.sle, decide_eq_true_eq, BitVec.toInt_eq_toNat_cond] at h1 h2
  simp at h1 h2
  split_ifs at h1 h2 <;> omega

/-- The words the kernel sends to scalar memory are below the number of frames. -/
theorem pay26_lt (a16 a18 : IVec S32x1 32) (v27 v44 v46 : IVec S32x1 1) (v67 : IVec S32x1 32) (i : S32x1.Idx) :
    (k0_pay26 a16 a18 v27 v44 v46 v67 i).toNat < 64 := clip_lt _

/-- A word the transfer brought to scalar memory is below 64 where every word stored for it is. -/
theorem sent_lt {sp sp' : Space} (m : Memref sig .tc sp S32x1 .i32) (f : m.view.ty.Contents (Elt F)) (m' : Memref sig .tc sp' S32x1 .i32)
    (f' : m'.view.ty.Contents (Elt F)) {off : Fin S32x1.rank → ℕ} (inb : ∀ a, off a + S32x1.size a ≤ S32x1.size a)
    (w : (Rect.unit off S32x1.size inb).shape.Idx → Elt F .i32)
    (hw : ∀ i, (w i : BitVec 32).toNat < 64) (R : LoadRect S32x1) (x : R.shape.Idx) :
    (m.view.readAt (Elt F) R (m.view.write (Elt F) f (ReadAs.same.apply (m'.view.read (Elt F)
      (m'.view.writes (Elt F) f' [⟨Rect.unit off S32x1.size inb, w⟩]))) Finset.univ) x : BitVec 32).toNat < 64 := by
  refine word_lt m f _ (fun i => ?_) R x
  show (m'.view.read (Elt F) (m'.view.writes (Elt F) f' [⟨Rect.unit off S32x1.size inb, w⟩]) i : BitVec 32).toNat < 64
  rw [View.read_writes_full]; exact hw i

/-- The row of the scratch at frame `w` of row `b`, as the copied frames read it. -/
theorem row_read (m : Memref sig .tc .vmem S32x64x320 .f32) (h : m.IsWhole) (X : Vec F S32x64x320 .f32) (b : Fin 32) (w : BitVec 32) (hw : w.toNat < 64)
    (inb : ∀ a, (![b.val, w.toNat, 0] : Fin 3 → Nat) a + S1x1x320.size a ≤ S32x64x320.size a) (j : Fin 320) :
    m.view.readAt (Elt F) (Rect.unit (s := S32x64x320) ![b.val, w.toNat, 0] S1x1x320.size inb).toLoadRect (h.unread X) (ix3 0 0 j)
      = X (ix3 b (⟨w.toNat % 64, Nat.mod_lt _ (by decide)⟩ : Fin 64) j) := by
  rw [Memref.IsWhole.readAt_unread]
  refine congrArg X (funext fun a => Fin.ext ?_)
  fin_cases a
  · show b.val + 1 * 0 = b.val; omega
  · show w.toNat + 1 * 0 = w.toNat % 64; rw [Nat.mod_eq_of_lt hw]; omega
  · show 0 + 1 * j.val = j.val; omega

/-- The word of row `b` in a memref filled from `w`. -/
theorem word_read {sp : Space} (m : Memref sig .tc sp S32x1 .i32) (f : m.view.ty.Contents (Elt F)) (w : S32x1.Idx → Elt F .i32) (b : Fin 32)
    (inb : ∀ a, (![b.val, 0] : Fin 2 → Nat) a + S1x1.size a ≤ S32x1.size a) (x : (Rect.unit (s := S32x1) ![b.val, 0] S1x1.size inb).shape.Idx) :
    m.view.readAt (Elt F) (Rect.unit (s := S32x1) ![b.val, 0] S1x1.size inb).toLoadRect (m.view.write (Elt F) f w Finset.univ) x = w (ix2 b 0) := by
  have h : m.view.readAt (Elt F) (Rect.unit (s := S32x1) ![b.val, 0] S1x1.size inb).toLoadRect (m.view.write (Elt F) f w Finset.univ) x = w ((Rect.unit (s := S32x1) ![b.val, 0] S1x1.size inb).toLoadRect.idx x) :=
    congrFun (View.read_write_univ f w) _
  rw [h]
  refine congrArg w (funext fun a => Fin.ext ?_)
  have h0 : (x 0).val < 1 := (x 0).isLt
  have h1 : (x 1).val < 1 := (x 1).isLt
  fin_cases a
  · show b.val + 1 * (x 0).val = b.val; omega
  · show 0 + 1 * (x 1).val = 0; omega

/-- One word of the column lies inside it. -/
theorem one_inb (b : Fin 32) : ∀ a, (![b.val, 0] : Fin 2 → Nat) a + S1x1.size a ≤ S32x1.size a := by
  have := b.isLt
  intro a
  fin_cases a
  · show b.val + 1 ≤ 32; omega
  · show 0 + 1 ≤ 1; omega

/-- What the copy to scalar memory carries after the words `w` are stored. -/
abbrev sent {sp : Space} (m : Memref sig .tc sp S32x1 .i32) (f : m.view.ty.Contents (Elt F)) (w : S32x1.Idx → Elt F .i32) : S32x1.Idx → Elt F .i32 :=
  ReadAs.same.apply (m.view.read (Elt F) (m.view.writes (Elt F) f [⟨Rect.unit ![0, 0] S32x1.size inb_S32x1_S32x1_0_0, w⟩]))

set_option maxHeartbeats 4000000 in
/-- One trip leaves the written symbols and the carried values of one step. -/
theorem trip (v11 : Vec F S32x1 .i32) (v13 : IVec S32x1025 32) (v14 : IVec S32x128 32) (k : Fin k0_t1_loop.trips)
    (a16 a17 a18 : IVec S32x1 32) (a19 : FVec F S32x1 .f32) (a20 : FVec F S32x320 .bf16) (a21 a22 a23 : FVec F S32x320 .f32)
    (f3 : Vec F S1025x320 .bf16) (f4 f5 : Vec F S320x1280 .bf16) (f6 : Vec F S320x320 .bf16)
    (f7 : Vec F S320x1025 .bf16) (f8 : Vec F S32x128 .i32) (f11 : Vec F S32x64x320 .f32) (f12 : arg12.view.ty.Contents (Elt F)) (f13 : arg13.view.ty.Contents (Elt F)) (W : Waits sig Unit) (Q : Acc F → sProp 𝕄) :
    iprop(at_ c arg3 harg3 f3 ∗ at_ c arg4 harg4 f4 ∗ at_ c arg5 harg5 f5 ∗ at_ c arg6 harg6 f6 ∗ at_ c arg7 harg7 f7 ∗ at_ c arg8 harg8 f8 ∗ at_ c arg11 harg11 f11 ∗ (arg12.view.loc (c : Thread nD τ) ↦{fullShare} f12) ∗ (arg13.view.loc (c : Thread nD τ) ↦{fullShare} f13)
     ∗ semVal ((c : Thread nD τ), .dma arg14.sem) 0 ∗ owes (c : Thread nD τ) 0 W
     ∗ ((at_ c arg3 harg3 f3 ∗ at_ c arg4 harg4 f4 ∗ at_ c arg5 harg5 f5 ∗ at_ c arg6 harg6 f6 ∗ at_ c arg7 harg7 f7
       ∗ at_ c arg8 harg8 (stepHyps v11 v13 f7 (a16, a17, a18, a19, a20, a21, a22, a23) v14 f8) ∗ at_ c arg11 harg11 f11
       ∗ (∃ f, arg12.view.loc (c : Thread nD τ) ↦{fullShare} f) ∗ (∃ f, arg13.view.loc (c : Thread nD τ) ↦{fullShare} f) ∗ semVal ((c : Thread nD τ), .dma arg14.sem) 0 ∗ (∃ W', owes (c : Thread nD τ) 0 W'))
       -∗ Q (stepAcc v11 v13 f7 (a16, a17, a18, a19, a20, a21, a22, a23) f3 f4 f5 f6 f11)))
    ⊢ wp frame (wpE (defs₀ (F := F)) Variants.none (c : Thread nD τ) none) Set.univ
      (k0_t1_body arg0 harg0 arg1 harg1 arg2 harg2 arg3 harg3 arg4 harg4 arg5 harg5 arg6 harg6 arg7 harg7 arg8 harg8 arg9 harg9 arg10 harg10 arg11 harg11 arg12 harg12 arg13 harg13 arg14 v11 v13 v14 k (a16, a17, a18, a19, a20, a21, a22, a23)) Q := by
  iintro ⟨H3, H4, H5, H6, H7, H8, H11, H12, H13, Hs, HO, HQ⟩
  unfold k0_t1_body
  sl_exec (disch := exact row_inb _ (by decide) _ (sent_lt _ _ _ _ _ _ (pay26_lt _ _ _ _ _ _) _ _))
  sl_step
  iapply (post_eq (T' := stepAcc v11 v13 f7 (a16, a17, a18, a19, a20, a21, a22, a23) f3 f4 f5 f6 f11) Q ?h)
  case h =>
    sl_unfold_run_names
    repeat rw [load_held]
    refine Prod.ext rfl (Prod.ext rfl (Prod.ext rfl (Prod.ext rfl (Prod.ext rfl (Prod.ext rfl (Prod.ext rfl ?_))))))
    funext j
    have hsent : sent arg12 f12 (words v11 v13 f7 (a16, a17, a18, a19, a20, a21, a22, a23)) = words v11 v13 f7 (a16, a17, a18, a19, a20, a21, a22, a23) :=
      View.read_writes_full ..
    exact (rows_apply (fun b : Fin 32 => arg11.view.readAt (Elt F) (Rect.unit (s := S32x64x320)
        ![b.val, (arg13.view.readAt (Elt F) (Rect.unit (s := S32x1) ![b.val, 0] S1x1.size (one_inb b)).toLoadRect
          (arg13.view.write (Elt F) f13 (sent arg12 f12 (words v11 v13 f7 (a16, a17, a18, a19, a20, a21, a22, a23))) Finset.univ) (Shape.Idx.first (show 0 < S1x1.numel by decide)) : BitVec 32).toNat, 0] S1x1x320.size
        (row_inb b.val b.isLt _ (word_lt _ _ _ (fun i => by rw [hsent]; exact pay26_lt _ _ _ _ _ _ i) _ _))).toLoadRect (harg11.unread f11)) j).trans
      ((row_read arg11 harg11 f11 (j 0) _ (word_lt _ _ _ (fun i => by rw [hsent]; exact pay26_lt _ _ _ _ _ _ i) _ _) _ (j 1)).trans
        (congrArg (fun w : BitVec 32 => f11 (ix3 (j 0) (⟨w.toNat % 64, Nat.mod_lt _ (by decide)⟩ : Fin 64) (j 1)))
          ((word_read arg13 f13 _ (j 0) (one_inb _) _).trans (congrFun hsent _))))
  sl_unfold_run_names
  repeat rw [load_held]
  rw [store_held harg8]
  iapply HQ
  isplitl [H3]
  · iexact H3
  isplitl [H4]
  · iexact H4
  isplitl [H5]
  · iexact H5
  isplitl [H6]
  · iexact H6
  isplitl [H7]
  · iexact H7
  isplitl [H8]
  · iexact H8
  isplitl [H11]
  · iexact H11
  isplitl [H12]
  · iexists _
    iexact H12
  isplitl [H13]
  · iexists _
    iexact H13
  isplitl [Hs]
  · iexact Hs
  iexists _
  iexact HO

end Cert.Proof.KI
end
-- ==== Proof.Loop.lean ====
module

public import proofs.«01_k».proof.Proof.Trip

/-! The decode loop by its invariant, and the whole kernel run once. -/

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ × Counters) ℕ

/-- The carried values and the written symbols after `k` steps from a given start. -/
def runSteps (v11 : Vec F S32x1 .i32) (v13 : IVec S32x1025 32) (v14 : IVec S32x128 32)
    (f3 : Vec F S1025x320 .bf16) (f4 f5 : Vec F S320x1280 .bf16) (f6 : Vec F S320x320 .bf16) (f7 : Vec F S320x1025 .bf16)
    (x : Vec F S32x64x320 .f32) (init : Acc F) (h0 : Vec F S32x128 .i32) : ℕ → Acc F × Vec F S32x128 .i32
  | 0 => (init, h0)
  | k + 1 =>
    (stepAcc v11 v13 f7 (runSteps v11 v13 v14 f3 f4 f5 f6 f7 x init h0 k).1 f3 f4 f5 f6 x,
     stepHyps v11 v13 f7 (runSteps v11 v13 v14 f3 f4 f5 f6 f7 x init h0 k).1 v14 (runSteps v11 v13 v14 f3 f4 f5 f6 f7 x init h0 k).2)

/-- The loop's invariant: the carried values and the symbols are those of so many steps. -/
@[sl_loop, instance_reducible] noncomputable def loopInv_k0_t1 (f3 : Vec F S1025x320 .bf16) (f4 f5 : Vec F S320x1280 .bf16) (f6 : Vec F S320x320 .bf16) (f7 : Vec F S320x1025 .bf16) (h0 : Vec F S32x128 .i32) (x : Vec F S32x64x320 .f32) (c : Dev nD) (arg0 : Memref sig .tc .vmem S2048x256 .bf16) (harg0 : arg0.IsWhole) (arg1 : Memref sig .tc .vmem S32x1 .i32) (harg1 : arg1.IsWhole) (arg2 : Memref sig .tc .vmem S256x320 .bf16) (harg2 : arg2.IsWhole) (arg3 : Memref sig .tc .vmem S1025x320 .bf16) (harg3 : arg3.IsWhole) (arg4 : Memref sig .tc .vmem S320x1280 .bf16) (harg4 : arg4.IsWhole) (arg5 : Memref sig .tc .vmem S320x1280 .bf16) (harg5 : arg5.IsWhole) (arg6 : Memref sig .tc .vmem S320x320 .bf16) (harg6 : arg6.IsWhole) (arg7 : Memref sig .tc .vmem S320x1025 .bf16) (harg7 : arg7.IsWhole) (arg8 : Memref sig .tc .vmem S32x128 .i32) (harg8 : arg8.IsWhole) (arg9 : Memref sig .tc .vmem S32x1 .i32) (harg9 : arg9.IsWhole) (arg10 : Memref sig .tc .vmem S32x1 .f32) (harg10 : arg10.IsWhole) (arg11 : Memref sig .tc .vmem S32x64x320 .f32) (harg11 : arg11.IsWhole) (arg12 : Memref sig .tc .vmem S32x1 .i32) (harg12 : arg12.IsWhole) (arg13 : Memref sig .tc .smem S32x1 .i32) (harg13 : arg13.IsWhole) (arg14 : DmaSems sig S_) (v11 : Vec F S32x1 .i32) (v13 : IVec S32x1025 32) (v14 : IVec S32x128 32) (init : IVec S32x1 32 × IVec S32x1 32 × IVec S32x1 32 × FVec F S32x1 .f32 × FVec F S32x320 .bf16 × FVec F S32x320 .f32 × FVec F S32x320 .f32 × FVec F S32x320 .f32) :
    LoopInvTy_k0_t1 (F := F) Unit ℕ (UR sig nD τ × Counters) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 v11 v13 v14 init where
  inv := fun k acc => iprop(⌜acc = (runSteps v11 v13 v14 f3 f4 f5 f6 f7 x init h0 k).1⌝ ∗ at_ c arg3 harg3 f3 ∗ at_ c arg4 harg4 f4 ∗ at_ c arg5 harg5 f5 ∗ at_ c arg6 harg6 f6 ∗ at_ c arg7 harg7 f7
    ∗ at_ c arg8 harg8 (runSteps v11 v13 v14 f3 f4 f5 f6 f7 x init h0 k).2 ∗ at_ c arg11 harg11 x
    ∗ (∃ f, arg12.view.loc (c : Thread nD τ) ↦{fullShare} f) ∗ (∃ f, arg13.view.loc (c : Thread nD τ) ↦{fullShare} f)
    ∗ semVal ((c : Thread nD τ), .dma arg14.sem) 0 ∗ (∃ W', owes (c : Thread nD τ) 0 W'))
  step := fun k acc => by
    iintro ⟨%he, H3, H4, H5, H6, H7, H8, H11, ⟨%f12, H12⟩, ⟨%f13, H13⟩, Hs, ⟨%W, HO⟩⟩
    obtain ⟨a16, a17, a18, a19, a20, a21, a22, a23⟩ := acc
    iapply (trip (F := F) c arg0 harg0 arg1 harg1 arg2 harg2 arg3 harg3 arg4 harg4 arg5 harg5 arg6 harg6 arg7 harg7 arg8 harg8 arg9 harg9 arg10 harg10 arg11 harg11 arg12 harg12 arg13 harg13 arg14 v11 v13 v14 k a16 a17 a18 a19 a20 a21 a22 a23 f3 f4 f5 f6 f7 _ x f12 f13 W)
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [Hs]; · iexact Hs
    isplitl [HO]; · iexact HO
    rw [he]
    iintro ⟨H3, H4, H5, H6, H7, H8, H11, H12, H13, Hs, HO⟩
    isplitr
    · ipureintro; rfl
    isplitl [H3]; · iexact H3
    isplitl [H4]; · iexact H4
    isplitl [H5]; · iexact H5
    isplitl [H6]; · iexact H6
    isplitl [H7]; · iexact H7
    isplitl [H8]; · iexact H8
    isplitl [H11]; · iexact H11
    isplitl [H12]; · iexact H12
    isplitl [H13]; · iexact H13
    isplitl [Hs]; · iexact Hs
    iexact HO

/-- The class column numbers. -/
abbrev iota13 : IVec S32x1025 32 := iota .tc S32x1025 32 [1] iota_S32x1025_d1_w32
/-- The symbol column numbers. -/
abbrev iota14 : IVec S32x128 32 := iota .tc S32x128 32 [1] iota_S32x128_d1_w32

/-- What the loop leaves after all its trips, from the operands' contents. -/
def final (f0 : Vec F S2048x256 .bf16) (f1 : Vec F S32x1 .i32) (f2 : Vec F S256x320 .bf16) (f3 : Vec F S1025x320 .bf16) (f4 f5 : Vec F S320x1280 .bf16)
    (f6 : Vec F S320x320 .bf16) (f7 : Vec F S320x1025 .bf16) : Acc F × Vec F S32x128 .i32 :=
  runSteps f1 iota13 iota14 f3 f4 f5 f6 f7 (k0_pay2 f0 f2) (k0_pay5, k0_pay5, k0_pay5, k0_pay7, k0_pay8, k0_pay9, k0_pay10, k0_pay6 f0 f2) k0_pay3 128

set_option maxHeartbeats 4000000 in
/-- The kernel from its operands' contents: the three results are those of the loop's last trip. -/
theorem kernelRun (c : Dev nD) (arg0 : Memref sig .tc .vmem S2048x256 .bf16) (harg0 : arg0.IsWhole) (arg1 : Memref sig .tc .vmem S32x1 .i32) (harg1 : arg1.IsWhole) (arg2 : Memref sig .tc .vmem S256x320 .bf16) (harg2 : arg2.IsWhole) (arg3 : Memref sig .tc .vmem S1025x320 .bf16) (harg3 : arg3.IsWhole) (arg4 : Memref sig .tc .vmem S320x1280 .bf16) (harg4 : arg4.IsWhole) (arg5 : Memref sig .tc .vmem S320x1280 .bf16) (harg5 : arg5.IsWhole) (arg6 : Memref sig .tc .vmem S320x320 .bf16) (harg6 : arg6.IsWhole) (arg7 : Memref sig .tc .vmem S320x1025 .bf16) (harg7 : arg7.IsWhole) (arg8 : Memref sig .tc .vmem S32x128 .i32) (harg8 : arg8.IsWhole) (arg9 : Memref sig .tc .vmem S32x1 .i32) (harg9 : arg9.IsWhole) (arg10 : Memref sig .tc .vmem S32x1 .f32) (harg10 : arg10.IsWhole) (arg11 : Memref sig .tc .vmem S32x64x320 .f32) (harg11 : arg11.IsWhole) (arg12 : Memref sig .tc .vmem S32x1 .i32) (harg12 : arg12.IsWhole) (arg13 : Memref sig .tc .smem S32x1 .i32) (harg13 : arg13.IsWhole) (arg14 : DmaSems sig S_) (f0 : Vec F S2048x256 .bf16) (f1 : Vec F S32x1 .i32) (f2 : Vec F S256x320 .bf16) (f3 : Vec F S1025x320 .bf16) (f4 f5 : Vec F S320x1280 .bf16)
    (f6 : Vec F S320x320 .bf16) (f7 : Vec F S320x1025 .bf16) (d8 : arg8.view.ty.Contents (Elt F)) (d9 : arg9.view.ty.Contents (Elt F)) (d10 : arg10.view.ty.Contents (Elt F))
    (d11 : arg11.view.ty.Contents (Elt F)) (d12 : arg12.view.ty.Contents (Elt F)) (d13 : arg13.view.ty.Contents (Elt F)) (W : Waits sig Unit) (Q : PUnit → sProp 𝕄) :
    iprop(at_ c arg0 harg0 f0 ∗ at_ c arg1 harg1 f1 ∗ at_ c arg2 harg2 f2 ∗ at_ c arg3 harg3 f3 ∗ at_ c arg4 harg4 f4 ∗ at_ c arg5 harg5 f5 ∗ at_ c arg6 harg6 f6 ∗ at_ c arg7 harg7 f7
      ∗ (arg8.view.loc (c : Thread nD τ) ↦{fullShare} d8) ∗ (arg9.view.loc (c : Thread nD τ) ↦{fullShare} d9) ∗ (arg10.view.loc (c : Thread nD τ) ↦{fullShare} d10)
      ∗ (arg11.view.loc (c : Thread nD τ) ↦{fullShare} d11) ∗ (arg12.view.loc (c : Thread nD τ) ↦{fullShare} d12) ∗ (arg13.view.loc (c : Thread nD τ) ↦{fullShare} d13)
      ∗ semVal ((c : Thread nD τ), .dma arg14.sem) 0 ∗ owes (c : Thread nD τ) 0 W
      ∗ ((at_ c arg0 harg0 f0 ∗ at_ c arg1 harg1 f1 ∗ at_ c arg2 harg2 f2 ∗ at_ c arg3 harg3 f3 ∗ at_ c arg4 harg4 f4 ∗ at_ c arg5 harg5 f5 ∗ at_ c arg6 harg6 f6 ∗ at_ c arg7 harg7 f7
        ∗ at_ c arg8 harg8 (final f0 f1 f2 f3 f4 f5 f6 f7).2 ∗ at_ c arg9 harg9 (final f0 f1 f2 f3 f4 f5 f6 f7).1.2.1 ∗ at_ c arg10 harg10 (final f0 f1 f2 f3 f4 f5 f6 f7).1.2.2.2.1
        ∗ (∃ f, arg11.view.loc (c : Thread nD τ) ↦{fullShare} f) ∗ (∃ f, arg12.view.loc (c : Thread nD τ) ↦{fullShare} f) ∗ (∃ f, arg13.view.loc (c : Thread nD τ) ↦{fullShare} f)
        ∗ semVal ((c : Thread nD τ), .dma arg14.sem) 0 ∗ (∃ W', owes (c : Thread nD τ) 0 W'))
       -∗ Q ⟨⟩))
    ⊢ wp frame (wpE (defs₀ (F := F)) Variants.none (c : Thread nD τ) none) Set.univ
      (cc0__decode_kernel arg0 harg0 arg1 harg1 arg2 harg2 arg3 harg3 arg4 harg4 arg5 harg5 arg6 harg6 arg7 harg7 arg8 harg8 arg9 harg9 arg10 harg10 arg11 harg11 arg12 harg12 arg13 harg13 arg14) Q := by
  rw [cc0__decode_kernel_eq_skeleton]
  unfold cc0__decode_kernel_skel
  iintro ⟨H0, H1, H2, H3, H4, H5, H6, H7, H8, H9, H10, H11, H12, H13, Hs, HO, HQ⟩
  sl_exec
  sl_unfold_run_names
  repeat rw [load_held]
  rw [store_held harg8, store_held harg11]
  sl_exec
  sl_step
  rw [store_held harg9, store_held harg10, show Scf.trips k0_t1_loop.lb k0_t1_loop.ub k0_t1_loop.st = 128 from by decide]
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [Hs]; · iexact Hs
  iexists _; iexact HO

end Cert.Proof.KI
end
-- ==== Proof.Run.lean ====
module

public import proofs.«01_k».proof.Proof.Loop
public import proofs.«01_k».proof.Proof.Gen.KernelIdeal.Frame
public import Idealize.ShloMosaic.Lib.Pipeline.Frame
public import Idealize.ShloMosaic.Lib.Pipeline.FrameSuffix
public import Idealize.ShloMosaic.Lib.Transfers

/-! The launch: the kernel's one call between its host operations, and what every buffer holds at the end. -/

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole memref owned at `X` is its buffer held at the contents that read `X`. -/
theorem owns_at (c : Dev nD) {sp : Space} {S : Shape} {e : EltTy} (M : Memref sig .tc sp S e) (h : M.IsWhole) (X : S.Idx → Elt F e) :
    (owns (c : Thread nD τ) M fullShare X : sProp 𝕄) ⊢ at_ c M h X := by
  unfold owns
  iintro ⟨%f, %hf, H⟩
  rw [h.set_eq_univ, h.eq_unread hf]
  iexact H

/-- And back. -/
theorem at_owns (c : Dev nD) {sp : Space} {S : Shape} {e : EltTy} (M : Memref sig .tc sp S e) (h : M.IsWhole) (X : S.Idx → Elt F e) :
    at_ c M h X ⊢ (owns (c : Thread nD τ) M fullShare X : sProp 𝕄) := by
  unfold owns
  iintro H
  iexists _
  isplitr; swap
  · rw [h.set_eq_univ]; iexact H
  ipureintro
  exact h.read_unread X

/-- The kernel's own semaphore: the one its copies to scalar memory signal. -/
abbrev osem : Fin 1 → SemLoc sig := fun _ => .dma (cc0_scratch3 : DmaSems sig S_).sem

/-- The copy counter is none of the windows' own. -/
theorem osem_facts : Pipeline.OwnSemFacts spec0 osem := by decide

/-- The body's own counters are the one of its copies, at zero. -/
theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), .dma (cc0_scratch3 : DmaSems sig S_).sem) 0 := by
  rw [Pipeline.ownSems0_eq_of_list c osem [0] (by decide) (by decide)]; rfl

attribute [local irreducible] final

/-- What the kernel leaves, from the operands' blocks at point `t`. -/
abbrev left (c : Dev nD) (t : Fin cfg0.N) : Acc F × Vec F S32x128 .i32 :=
  final (iblk m c 0 t) (iblk m c 1 t) (iblk m c 2 t) (iblk m c 3 t) (iblk m c 4 t) (iblk m c 5 t) (iblk m c 6 t) (iblk m c 7 t)

/-- The proof data: the arrays as the host operations leave them, the operands' blocks kept, the results' those of
    the loop's last trip. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t).2
    | ⟨9, _⟩ => (left m c t).1.2.1
    | ⟨10, _⟩ => (left m c t).1.2.2.2.1
  Φ _ := Pipeline.ΦD osem spec0 ∅ (V m) c
  q _ := fullShare
  owed _ := 0

/-- The arrays at the start of the grid are those the host code leaves. -/
theorem A_eq (c : Dev nD) (w : Fin cfg0.W) : (dats m 0 c).A w = V m c (Pipeline.arrRef spec0 w) := by dsimp only [dats]

/-- Every window is fetched. -/
theorem fetched : ∀ w : Fin cfg0.W, w.val < 8 → ∀ t : Fin cfg0.N, (cfg0.win w).fetch t = true := by
  intro w hw t
  obtain rfl := fin_N0 t
  revert w
  decide +kernel

/-- An operand's staging buffer holds its block when the body runs. -/
theorem found (c : Dev nD) (w : Fin 11) (hw : w.val < 8) (t : Fin cfg0.N) (d) : (dats m 0 c).before w t d = (dats m 0 c).after w t := by
  unfold Dat.before
  rw [if_pos (fetched w hw t)]
  obtain ⟨w, h⟩ := w
  interval_cases w
  all_goals first | rfl | exact absurd hw (by decide)

/-- A buffer held at `f` and at anything. -/
abbrev some_ (c : Dev nD) {sp : Space} {S : Shape} {e : EltTy} (M : Memref sig .tc sp S e) : sProp 𝕄 :=
  iprop(∃ f : M.view.ty.Contents (Elt F), M.view.loc (c : Thread nD τ) ↦{fullShare} f)

/-- The invariant, conjunct by conjunct. -/
theorem Phi_eq (c : Dev nD) :
    (Pipeline.ΦD osem spec0 ∅ (V m) c : sProp 𝕄)
      = iprop(iprop(some_ c (Memref.whole cc0_scratch0) ∗ some_ c (Memref.whole cc0_scratch1) ∗ some_ c (Memref.whole cc0_scratch2))
        ∗ (∃ r, prngReg c r) ∗ semVal ((c : Thread nD τ), .dma (cc0_scratch3 : DmaSems sig S_).sem) 0 ∗ emp) := by
  rw [Pipeline.ΦD_eq, scopedRest0_eq, ownSems_eq, BI.bigSep_empty]; rfl

/-- The body's row of the definitions is the body at that point. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at the point: from the operands' blocks to the results of the loop's last trip. -/
theorem body_obligation (c : Dev nD) : BodyObligation (dats m 0 c) (defs₀ (F := F)) Variants.none () Set.univ := fun t => by
  rw [bigSep_W0, bigSep_W0, defs₀_row]
  rw [show (dats m 0 c).Φ t.succ = Pipeline.ΦD osem spec0 ∅ (V m) c from rfl,
    show (dats m 0 c).owesAt () t.succ = (dats m 0 c).owesAt () t.castSucc from rfl,
    show (dats m 0 c).Φ t.castSucc = Pipeline.ΦD osem spec0 ∅ (V m) c from rfl, Phi_eq]
  unfold Dat.owesAt Pipeline.owesWithin
  rw [show (dats m 0 c).owed t.castSucc = 0 from rfl]
  iintro ⟨⟨⟨⟨%d11, H11⟩, ⟨%d12, H12⟩, ⟨%d13, H13⟩⟩, Hg, Hs, He⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [found m c 0 (by decide) t d0, found m c 1 (by decide) t d1, found m c 2 (by decide) t d2, found m c 3 (by decide) t d3, found m c 4 (by decide) t d4, found m c 5 (by decide) t d5, found m c 6 (by decide) t d6, found m c 7 (by decide) t d7]
  ihave H0 := (owns_at c (st0_0 t) (hstage0_0 0) ((dats m 0 c).after 0 t)) $$ H0
  ihave H1 := (owns_at c (st0_1 t) (hstage0_1 0) ((dats m 0 c).after 1 t)) $$ H1
  ihave H2 := (owns_at c (st0_2 t) (hstage0_2 0) ((dats m 0 c).after 2 t)) $$ H2
  ihave H3 := (owns_at c (st0_3 t) (hstage0_3 0) ((dats m 0 c).after 3 t)) $$ H3
  ihave H4 := (owns_at c (st0_4 t) (hstage0_4 0) ((dats m 0 c).after 4 t)) $$ H4
  ihave H5 := (owns_at c (st0_5 t) (hstage0_5 0) ((dats m 0 c).after 5 t)) $$ H5
  ihave H6 := (owns_at c (st0_6 t) (hstage0_6 0) ((dats m 0 c).after 6 t)) $$ H6
  ihave H7 := (owns_at c (st0_7 t) (hstage0_7 0) ((dats m 0 c).after 7 t)) $$ H7
  ihave H8 := (owns_at c (st0_8 t) (hstage0_8 0) _) $$ H8
  ihave H9 := (owns_at c (st0_9 t) (hstage0_9 0) _) $$ H9
  ihave H10 := (owns_at c (st0_10 t) (hstage0_10 0) _) $$ H10
  iapply (kernelRun c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (Memref.whole cc0_scratch0) (Memref.isWhole_whole _) (Memref.whole cc0_scratch1) (Memref.isWhole_whole _) (Memref.whole cc0_scratch2) (Memref.isWhole_whole _) cc0_scratch3 ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) _ _ _ d11 d12 d13 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hs]; · iexact Hs
  isplitl [HO]; · iexact HO
  iintro ⟨H0, H1, H2, H3, H4, H5, H6, H7, H8, H9, H10, H11, H12, H13, Hs, ⟨%W', HO⟩⟩
  isplitl [H11 H12 H13 Hg Hs He]
  · isplitl [H11 H12 H13]
    · isplitl [H11]; · iexact H11
      isplitl [H12]; · iexact H12
      iexact H13
    isplitl [Hg]; · iexact Hg
    isplitl [Hs]; · iexact Hs
    iexact He
  isplitl [HO]
  · iexists W'; isplitr; · ipureintro; exact fun _ _ => Or.inl trivial
    iexact HO
  isplitl [H0]; · iapply (at_owns c (st0_0 t) (hstage0_0 0) ((dats m 0 c).after 0 t)); iexact H0
  isplitl [H1]; · iapply (at_owns c (st0_1 t) (hstage0_1 0) ((dats m 0 c).after 1 t)); iexact H1
  isplitl [H2]; · iapply (at_owns c (st0_2 t) (hstage0_2 0) ((dats m 0 c).after 2 t)); iexact H2
  isplitl [H3]; · iapply (at_owns c (st0_3 t) (hstage0_3 0) ((dats m 0 c).after 3 t)); iexact H3
  isplitl [H4]; · iapply (at_owns c (st0_4 t) (hstage0_4 0) ((dats m 0 c).after 4 t)); iexact H4
  isplitl [H5]; · iapply (at_owns c (st0_5 t) (hstage0_5 0) ((dats m 0 c).after 5 t)); iexact H5
  isplitl [H6]; · iapply (at_owns c (st0_6 t) (hstage0_6 0) ((dats m 0 c).after 6 t)); iexact H6
  isplitl [H7]; · iapply (at_owns c (st0_7 t) (hstage0_7 0) ((dats m 0 c).after 7 t)); iexact H7
  isplitl [H8]; · iapply (at_owns c (st0_8 t) (hstage0_8 0) ((dats m 0 c).after 8 t)); iexact H8
  isplitl [H9]; · iapply (at_owns c (st0_9 t) (hstage0_9 0) ((dats m 0 c).after 9 t)); iexact H9
  iapply (at_owns c (st0_10 t) (hstage0_10 0) ((dats m 0 c).after 10 t)); iexact H10

/-- The program up to the call and after it. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The host code after the region touches only what the region returns. -/
theorem sfx_sub' : ∀ ops ∈ ([hostOps1] : List (List (HloOp τ sig (Elt F)))), ∀ op ∈ ops,
    op.bufs ⊆ Pipeline.tailRefsBut sig Pipeline.Prefetch.none spec0 ∅ := by
  have h : Pipeline.tailRefsBut sig Pipeline.Prefetch.none spec0 ∅ = Pipeline.tailRefs (τ := τ) sig Pipeline.Prefetch.none spec0 := by
    unfold Pipeline.tailRefsBut Pipeline.tailRefs
    simp
  rw [h]
  exact sfx_sub

set_option backward.isDefEq.respectTransparency.types false in
/-- Every execution from zero counters ends; the arrays hold what the proof data says, every other buffer what the host
    operations leave in it, and every counter is zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ Variants.none osem_facts ∅ (Finset.empty_subset _) m ρ main
    (hbody := fun c => (body_obligation m c).loose) (hshare := fun c => (dats m 0 c).share_full fun _ => rfl)
    (howed := fun _ _ => rfl) (V₀ := V0 m) (opss := [hostOps1]) (hsub := sfx_sub') (hfresh := sfx_fresh) (hkeep := sfx_keeps)
    (hmain := hmainD m) (hA := A_eq m) (hin := fun _ => .rfl) (hout := fun _ => .rfl) (hQ' := fun _ h => h)

end Cert.Proof.KI
end
-- ==== Proof.Ends.lean ====
module

public import proofs.«01_k».proof.Proof.Run
public import Idealize.ShloMosaic.Lib.Pipeline.ValueKit
public import proofs.«01_k».proof.Proof.Gen.KernelIdeal.Frame
public import Idealize.ShloMosaic.Lib.Pipeline.Frame
public import Idealize.ShloMosaic.Lib.Pipeline.FrameSuffix
public import Idealize.ShloMosaic.Lib.Transfers

/-! What the arguments and the results hold when the program ends. -/

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

attribute [local irreducible] final

/-- A buffer no host operation after the call writes, and no window's array, ends as the call finds it. -/
theorem kept (c : Dev nD) (b : Ref sig .tc) (hb : b ≠ main_v0_1 ∧ b ≠ main_v0_2) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (fun op hop => ?_), Pipeline.withArrays_of_ne _ c (V0 m c) _ b hw]
  simp only [hostOps1, List.flatten_cons, List.flatten_nil, List.append_nil, List.mem_cons, List.mem_nil_iff, or_false] at hop
  rcases hop with rfl | rfl <;> simp only [StableHlo.reshape_writes, Finset.mem_singleton]
  · exact StableHlo.devRef_ne_of_ne hb.1
  · exact StableHlo.devRef_ne_of_ne hb.2

/-- An argument ends as launched, when the call finds it so. -/
theorem kept_arg {r : PUnit × MemSt nD τ sig (Elt F)}
    (h : Pipeline.FramePost cfgs (dats m) 0 (Pipeline.afterTail₀ cfgs (dats m) 0 (V0 m) [hostOps1]) r) (c : Dev nD) (b : Ref sig .tc)
    (hb : b ≠ main_v0_1 ∧ b ≠ main_v0_2) (hw : ∀ w, Pipeline.arrRef spec0 w ≠ b) (hm : b ∈ Pipeline.restRefs sig spec0)
    (hV : V m c b = m ((c : Thread nD τ).loc b)) : r.2.mem ((c : Thread nD τ).loc b) = m ((c : Thread nD τ).loc b) :=
  ((h c).2 b hm).trans ((kept m c b hb hw).trans hV)

/-- The symbols' array at the end. -/
theorem end8 (c : Dev nD) : (dats m 0 c).arrAt 8 cfg0.N = (left m c t0_0).2 := by
  funext i
  refine ((dats m 0 c).arrAt_emb_eq_after_last 8 t0_0 (by decide +kernel) i).trans ?_
  rfl

/-- The lengths' array at the end. -/
theorem end9 (c : Dev nD) : (dats m 0 c).arrAt 9 cfg0.N = (left m c t0_0).1.2.1 := by
  funext i
  refine ((dats m 0 c).arrAt_emb_eq_after_last 9 t0_0 (by decide +kernel) i).trans ?_
  rfl

/-- The scores' array at the end. -/
theorem end10 (c : Dev nD) : (dats m 0 c).arrAt 10 cfg0.N = (left m c t0_0).1.2.2.2.1 := by
  funext i
  refine ((dats m 0 c).arrAt_emb_eq_after_last 10 t0_0 (by decide +kernel) i).trans ?_
  rfl

/-- The lengths at the end: the array's column as a list. -/
theorem end_len (c : Dev nD) : Pipeline.afterTail₀ cfgs (dats m) 0 (V0 m) [hostOps1] c main_v0_1
    = shapeCast S32 (left m c t0_0).1.2.1 shapeCasts_S32x1_S32 := by
  unfold Pipeline.afterTail₀
  rw [← end9]
  simp only [hostOps1, List.flatten_cons, List.flatten_nil, List.append_nil]
  after_region_results
  exact congrArg (fun v => shapeCast S32 v shapeCasts_S32x1_S32) (Pipeline.withArrays_arr spec0 launch0.win.arr_inj c (V0 m c) _ 9)

/-- The scores at the end: the array's column as a list. -/
theorem end_score (c : Dev nD) : Pipeline.afterTail₀ cfgs (dats m) 0 (V0 m) [hostOps1] c main_v0_2
    = shapeCast S32 (left m c t0_0).1.2.2.2.1 shapeCasts_S32x1_S32 := by
  unfold Pipeline.afterTail₀
  rw [← end10]
  simp only [hostOps1, List.flatten_cons, List.flatten_nil, List.append_nil]
  after_region_results
  exact congrArg (fun v => shapeCast S32 v shapeCasts_S32x1_S32) (Pipeline.withArrays_arr spec0 launch0.win.arr_inj c (V0 m c) _ 10)

/-- The whole run: the arguments kept, the three results those of the loop's last trip, the counters zero. -/
theorem run_ends :
    θ_run defs (onTc (τ := τ) (main (F := F))) (s₀ m ρ) (fun r => (∀ c : Dev nD,
      r.2.mem ((c.tc : Thread nD τ).loc main_v0_0) = (left m c t0_0).2
      ∧ r.2.mem ((c.tc : Thread nD τ).loc main_v0_1) = shapeCast S32 (left m c t0_0).1.2.1 shapeCasts_S32x1_S32
      ∧ r.2.mem ((c.tc : Thread nD τ).loc main_v0_2) = shapeCast S32 (left m c t0_0).1.2.2.2.1 shapeCasts_S32x1_S32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => ⟨((h.1 c).1 8).trans (end8 m c),
    ((h.1 c).2 main_v0_1 (Pipeline.mem_restRefs_of main_v0_1 (by decide) (by decide))).trans (end_len m c),
    ((h.1 c).2 main_v0_2 (Pipeline.mem_restRefs_of main_v0_2 (by decide) (by decide))).trans (end_score m c),
    kept_arg m h.1 c main_arg0 (by decide) (by decide) (Pipeline.mem_restRefs_of main_arg0 (by decide) (by decide)) (V_main_arg0 m c),
    kept_arg m h.1 c main_arg1 (by decide) (by decide) (Pipeline.mem_restRefs_of main_arg1 (by decide) (by decide)) (V_main_arg1 m c),
    kept_arg m h.1 c main_arg2 (by decide) (by decide) (Pipeline.mem_restRefs_of main_arg2 (by decide) (by decide)) (V_main_arg2 m c),
    kept_arg m h.1 c main_arg3 (by decide) (by decide) (Pipeline.mem_restRefs_of main_arg3 (by decide) (by decide)) (V_main_arg3 m c),
    kept_arg m h.1 c main_arg4 (by decide) (by decide) (Pipeline.mem_restRefs_of main_arg4 (by decide) (by decide)) (V_main_arg4 m c),
    kept_arg m h.1 c main_arg5 (by decide) (by decide) (Pipeline.mem_restRefs_of main_arg5 (by decide) (by decide)) (V_main_arg5 m c),
    kept_arg m h.1 c main_arg6 (by decide) (by decide) (Pipeline.mem_restRefs_of main_arg6 (by decide) (by decide)) (V_main_arg6 m c),
    kept_arg m h.1 c main_arg7 (by decide) (by decide) (Pipeline.mem_restRefs_of main_arg7 (by decide) (by decide)) (V_main_arg7 m c),
    kept_arg m h.1 c main_arg8 (by decide) (by decide) (Pipeline.mem_restRefs_of main_arg8 (by decide) (by decide)) (V_main_arg8 m c),
    kept_arg m h.1 c main_arg9 (by decide) (by decide) (Pipeline.mem_restRefs_of main_arg9 (by decide) (by decide)) (V_main_arg9 m c),
    kept_arg m h.1 c main_arg10 (by decide) (by decide) (Pipeline.mem_restRefs_of main_arg10 (by decide) (by decide)) (V_main_arg10 m c),
    kept_arg m h.1 c main_arg11 (by decide) (by decide) (Pipeline.mem_restRefs_of main_arg11 (by decide) (by decide)) (V_main_arg11 m c)⟩, h.2⟩) (run_main m ρ)

end Cert.Proof.KI
end
-- ==== Proof.Pick.lean ====
module

public import Idealize.ShloMosaic.Lib.Pointwise
public import Idealize.ShloMosaic.Lib.SortNet.Extract
public import Idealize.ShloMosaic.Lib.SortFacts

/-! The label of one row of scores: the first position of the greatest. A kernel finds it by a maximum and a least
position; a host program by a stable sort whose first entry it takes. Both are the same position. -/

@[expose] public section

noncomputable section

namespace Cert.Proof

open Idealize.ShloMosaic

variable {n : ℕ} [NeZero n] (l : Fin n → EReal)

/-- Some position holds the greatest score, and is the first to. -/
theorem exists_pick : ∃ p : Fin n, (∀ k, l k ≤ l p) ∧ ∀ k, l k = l p → p ≤ k := by
  obtain ⟨q, -, hq⟩ := Finset.exists_max_image Finset.univ l Finset.univ_nonempty
  have hne : (Finset.univ.filter fun k => l k = l q).Nonempty := ⟨q, by simp⟩
  obtain ⟨p, hp, hmin⟩ := Finset.exists_min_image _ (fun k : Fin n => k) hne
  have e : l p = l q := (Finset.mem_filter.1 hp).2
  exact ⟨p, fun k => e ▸ hq k (Finset.mem_univ k), fun k hk => hmin k (Finset.mem_filter.2 ⟨Finset.mem_univ k, hk.trans e⟩)⟩

/-- The first position of the greatest score. -/
def pick : Fin n := (exists_pick l).choose

/-- Nothing in the list exceeds the picked entry. -/
theorem le_pick (k : Fin n) : l k ≤ l (pick l) := (exists_pick l).choose_spec.1 k
/-- Any entry equal to the picked one comes no earlier. -/
theorem pick_first (k : Fin n) (h : l k = l (pick l)) : pick l ≤ k := (exists_pick l).choose_spec.2 k h

/-- Any position with the two properties is the label. -/
theorem pick_unique (p : Fin n) (h₁ : ∀ k, l k ≤ l p) (h₂ : ∀ k, l k = l p → p ≤ k) : p = pick l := by
  have e : l (pick l) = l p := le_antisymm (h₁ _) (le_pick l p)
  exact le_antisymm (h₂ _ e) (pick_first l p e.symm)

/-- The running maximum from the least extended real is the score at the label. -/
theorem fold_max_pick : Finset.fold max (Ideal.ofBits .f32 0xFF800000#32) l Finset.univ = l (pick l) := by
  have hb : Ideal.ofBits .f32 0xFF800000#32 = (⊥ : EReal) := by
    simp [Ideal.ofBits, Ideal.ieee]
  rw [hb]
  refine le_antisymm ?_ ?_
  · exact (Finset.fold_max_le _).2 ⟨bot_le, fun k _ => le_pick l k⟩
  · exact (Finset.le_fold_max _).2 (Or.inr ⟨pick l, Finset.mem_univ _, le_rfl⟩)

/-- The least position at which the greatest score stands, as words. -/
theorem fold_min_pick (hn : n < 2 ^ 31) :
    Finset.fold IntOp.minsi 2147483647#32 (fun k : Fin n => if l k = l (pick l) then BitVec.ofNat 32 k.val else BitVec.ofNat 32 n) Finset.univ
      = BitVec.ofNat 32 (pick l).val := by
  have hw : ∀ k : ℕ, k < 2 ^ 31 → (BitVec.ofNat 32 k).toInt = k := fun k hk => by
    rw [BitVec.toInt_eq_toNat_of_lt (by rw [BitVec.toNat_ofNat]; omega), BitVec.toNat_ofNat]; omega
  refine BitVec.eq_of_toInt_eq ?_
  rw [← Finset.fold_hom (op' := min) (m := BitVec.toInt) (fun a b => SortNet.toInt_minsi a b)]
  refine le_antisymm ?_ ?_
  · refine (Finset.fold_min_le _).2 (Or.inr ⟨pick l, Finset.mem_univ _, ?_⟩)
    rw [if_pos rfl]
  · refine (Finset.le_fold_min _).2 ⟨?_, fun k _ => ?_⟩
    · rw [hw _ (by have := (pick l).isLt; omega)]
      have := (pick l).isLt
      show ((pick l).val : ℤ) ≤ 2147483647
      omega
    · rw [hw _ (by have := (pick l).isLt; omega)]
      split
      · next h =>
        rw [hw _ (by have := k.isLt; omega)]
        exact_mod_cast pick_first l k h
      · rw [hw _ hn]
        exact_mod_cast (pick l).isLt.le

/-- The first entry of a stable sort, greater first, of a list of positions in order. -/
theorem sort_head (R : Fin n → Fin n → Bool) (hR : ∀ a b, R a b = true ↔ l b < l a) :
    ∀ m : List (Fin n), m.Pairwise (· < ·) → m ≠ [] →
      ∃ p t, stableSort R m = p :: t ∧ p ∈ m ∧ ∀ k ∈ m, l k ≤ l p ∧ (l k = l p → p ≤ k)
  | [], _, h => absurd rfl h
  | [a], _, _ => ⟨a, [], rfl, List.mem_singleton.2 rfl, fun k hk => by
      rw [List.mem_singleton.1 hk]; exact ⟨le_rfl, fun _ => le_rfl⟩⟩
  | a :: b :: m, hm, _ => by
      obtain ⟨ha, hm'⟩ := List.pairwise_cons.1 hm
      obtain ⟨p, t, hs, hp, hk⟩ := sort_head R hR (b :: m) hm' (by simp)
      have e : stableSort R (a :: b :: m) = if R p a then p :: insertBefore R a t else a :: p :: t := by
        show insertBefore R a (stableSort R (b :: m)) = _
        rw [hs]; rfl
      by_cases hpa : R p a = true
      · rw [if_pos hpa] at e
        have hlt := (hR _ _).1 hpa
        refine ⟨p, _, e, List.mem_cons_of_mem _ hp, fun k hk' => ?_⟩
        rcases List.mem_cons.1 hk' with rfl | h
        · exact ⟨hlt.le, fun h => absurd h hlt.ne⟩
        · exact hk k h
      · rw [if_neg hpa] at e
        have hle : l p ≤ l a := not_lt.1 fun h => hpa ((hR _ _).2 h)
        refine ⟨a, _, e, List.mem_cons_self, fun k hk' => ?_⟩
        rcases List.mem_cons.1 hk' with rfl | h
        · exact ⟨le_rfl, fun _ => le_rfl⟩
        · exact ⟨(hk k h).1.trans hle, fun _ => (ha k h).le⟩

/-- The first position of the sort, greater first, is the label. -/
theorem sortedFrom_pick (R : Fin n → Fin n → Bool) (hR : ∀ a b, R a b = true ↔ l b < l a) (z : Fin n) (hz : z.val = 0) :
    sortedFrom R z = pick l := by
  obtain ⟨p, t, hs, -, hk⟩ := sort_head l R hR (List.finRange n) (List.pairwise_lt_finRange n)
    (by rw [Ne, List.finRange_eq_nil_iff]; exact NeZero.ne n)
  have e : sortedFrom R z = p := by
    unfold sortedFrom
    rw [List.get_eq_getElem]
    have : (sortPositions n R)[0]'(by rw [length_sortPositions]; exact Nat.pos_of_ne_zero (NeZero.ne n)) = p := by
      simp only [sortPositions, hs, List.getElem_cons_zero]
    simpa [hz] using this
  rw [e]
  exact pick_unique l p (fun k => (hk k (List.mem_finRange k)).1) (fun k => (hk k (List.mem_finRange k)).2)

end Cert.Proof

end
-- ==== Proof.Spec.lean ====
module

public import proofs.«01_k».proof.Proof.Pick

/-! One row of the decoder as plain mathematics: what a step makes of a row, and that a row whose length is at most 64
frames is finished after 128 steps, so that steps after them change nothing it has written. -/

@[expose] public section

noncomputable section

namespace Cert.Proof

open Idealize.ShloMosaic

/-- The weights of the prediction network and of the joint. -/
structure Net where
  joint : Fin 320 → Fin 1025 → EReal
  embed : Fin 1025 → Fin 320 → EReal
  wi : Fin 320 → Fin 1280 → EReal
  wh : Fin 320 → Fin 1280 → EReal
  pred : Fin 320 → Fin 320 → EReal

/-- What a row carries from step to step: its frame, its length, the symbols of this frame, its score, the state of the
    prediction network and its projection, and the symbols written. -/
@[ext] structure Row where
  time : BitVec 32
  len : BitVec 32
  sym : BitVec 32
  score : EReal
  h : Fin 320 → EReal
  c : Fin 320 → EReal
  dec : Fin 320 → EReal
  out : Fin 128 → BitVec 32

/-- A frame word clipped to the 64 frames. -/
def clip (t : BitVec 32) : BitVec 32 := IntOp.minsi 63#32 (IntOp.maxsi 0#32 t)

/-- The frame a word names. -/
def frameAt (w : BitVec 32) : Fin 64 := ⟨w.toNat % 64, Nat.mod_lt _ (by decide)⟩

/-- The logistic function. -/
def sigm (x : EReal) : EReal := Ideal.div 1 (1 + Ideal.exp (-x))

namespace Row

variable (N : Net) (xp : Fin 64 → Fin 320 → EReal) (ol : BitVec 32) (r : Row)

/-- The scores of the labels. -/
def logits : Fin 1025 → EReal := fun k => ∑ i, max (xp (frameAt (clip r.time)) i + r.dec i) 0 * N.joint i k
/-- The label. -/
def lab : Fin 1025 := pick (r.logits N xp)
/-- The label's word. -/
def word : BitVec 32 := BitVec.ofNat 32 (r.lab N xp).val
/-- Whether the row is still decoding. -/
def live : BitVec 1 := IntOp.cmpi .slt r.time ol
/-- Whether the label is the blank. -/
def blank : BitVec 1 := IntOp.cmpi .eq (r.word N xp) 1024#32
/-- Whether the row writes a symbol. -/
def emit : BitVec 1 := IntOp.andi (r.live ol) (IntOp.xori (r.blank N xp) 1#1)
/-- The symbols of this frame, the new one counted. -/
def sym1 : BitVec 32 := Scalar.select (r.emit N xp ol) (IntOp.addi r.sym 1#32) r.sym
/-- Whether the row goes to its next frame. -/
def adv : BitVec 1 := IntOp.andi (r.live ol) (IntOp.ori (r.blank N xp) (IntOp.cmpi .sge (r.sym1 N xp ol) 2#32))
/-- Where the symbol is written. -/
def pos : BitVec 32 := IntOp.minsi 127#32 (IntOp.maxsi 0#32 r.len)
/-- The gates of the prediction network. -/
def gates : Fin 1280 → EReal := fun k => ∑ i, N.embed (r.lab N xp) i * N.wi i k + ∑ i, r.h i * N.wh i k
/-- The new cell. -/
def cell : Fin 320 → EReal := fun j =>
  sigm (r.gates N xp ⟨320 + j.val, by omega⟩) * r.c j
    + sigm (r.gates N xp ⟨j.val, by omega⟩) * Ideal.tanh (r.gates N xp ⟨640 + j.val, by omega⟩)
/-- The new hidden state. -/
def hid : Fin 320 → EReal := fun j => sigm (r.gates N xp ⟨960 + j.val, by omega⟩) * Ideal.tanh (r.cell N xp j)

/-- One step of a row. -/
def step : Row where
  time := IntOp.addi r.time (BitVec.setWidth 32 (r.adv N xp ol))
  len := IntOp.addi r.len (BitVec.setWidth 32 (r.emit N xp ol))
  sym := Scalar.select (r.adv N xp ol) 0#32 (r.sym1 N xp ol)
  score := r.score + Scalar.select (r.emit N xp ol) (r.logits N xp (r.lab N xp)) 0
  h := fun j => Scalar.select (r.emit N xp ol) (r.hid N xp j) (r.h j)
  c := fun j => Scalar.select (r.emit N xp ol) (r.cell N xp j) (r.c j)
  dec := fun j => Scalar.select (r.emit N xp ol) (∑ i, r.hid N xp i * N.pred i j) (r.dec j)
  out := fun j => Scalar.select (IntOp.andi (IntOp.cmpi .eq (BitVec.ofNat 32 j.val) r.pos) (r.emit N xp ol)) (r.word N xp) (r.out j)

/-- A row before its first step. -/
def start : Row where
  time := 0#32
  len := 0#32
  sym := 0#32
  score := 0
  h := fun _ => 0
  c := fun _ => 0
  dec := fun _ => 0
  out := fun _ => 1024#32

/-- A finished row's step changes neither its frame nor anything it has written. -/
theorem step_done (h : r.live ol = 0#1) : (r.step N xp ol).time = r.time ∧ (r.step N xp ol).len = r.len
    ∧ (r.step N xp ol).score = r.score ∧ (r.step N xp ol).out = r.out := by
  have he : r.emit N xp ol = 0#1 := by rw [emit, h]; exact BitVec.zero_and
  have ha : r.adv N xp ol = 0#1 := by rw [adv, h]; exact BitVec.zero_and
  have hz : ∀ b : BitVec 1, IntOp.andi b 0#1 = 0#1 := fun _ => BitVec.and_zero
  refine ⟨?_, ?_, ?_, ?_⟩
  · show IntOp.addi r.time _ = _
    rw [ha]; exact BitVec.add_zero _
  · show IntOp.addi r.len _ = _
    rw [he]; exact BitVec.add_zero _
  · show r.score + _ = _
    rw [he]; exact add_zero _
  · funext j
    show Scalar.select _ _ _ = _
    rw [he, hz]; rfl

/-- However many steps a finished row takes, it is the same in what it has written. -/
theorem steps_done : ∀ (n : ℕ) (r : Row), r.live ol = 0#1 → ((step N xp ol)^[n] r).len = r.len
    ∧ ((step N xp ol)^[n] r).score = r.score ∧ ((step N xp ol)^[n] r).out = r.out
  | 0, _, _ => ⟨rfl, rfl, rfl⟩
  | n + 1, r, h => by
    obtain ⟨ht, hl, hs, ho⟩ := step_done N xp ol r h
    have h' : (r.step N xp ol).live ol = 0#1 := by rw [live, ht]; exact h
    obtain ⟨h1, h2, h3⟩ := steps_done n _ h'
    rw [Function.iterate_succ_apply]
    exact ⟨h1.trans hl, h2.trans hs, h3.trans ho⟩

/-- After `k` steps: at most one symbol of the frame is written, and a row still decoding has gone half a frame a step. -/
def Gone (k : ℕ) : Prop := r.time.toNat ≤ 64 ∧ r.sym.toNat ≤ 1 ∧ (r.live ol = 0#1 ∨ k ≤ 2 * r.time.toNat + r.sym.toNat)

/-- A step keeps it. -/
theorem gone_step (hol : ol.toInt ≤ 64) (k : ℕ) (h : r.Gone ol k) : (r.step N xp ol).Gone ol (k + 1) := by
  obtain ⟨ht, hs, hk⟩ := h
  rcases BitVec.eq_zero_or_eq_one (r.live ol) with hl | hl
  · have h0 : (r.step N xp ol).time = r.time := (step_done N xp ol r hl).1
    have he : r.emit N xp ol = 0#1 := by rw [emit, hl]; exact BitVec.zero_and
    have ha : r.adv N xp ol = 0#1 := by rw [adv, hl]; exact BitVec.zero_and
    have h1 : (r.step N xp ol).sym = r.sym := by
      show Scalar.select (r.adv N xp ol) _ (Scalar.select (r.emit N xp ol) _ _) = _
      rw [ha, he]; rfl
    refine ⟨h0 ▸ ht, h1 ▸ hs, Or.inl ?_⟩
    rw [live, h0]; exact hl
  · have hk : k ≤ 2 * r.time.toNat + r.sym.toNat := hk.resolve_left (by rw [hl]; decide)
    have hlt : r.time.toNat < 64 := by
      have : r.time.slt ol = true := by
        have h := hl
        unfold live IntOp.cmpi at h
        cases hb : r.time.slt ol with
        | true => rfl
        | false => simp [hb] at h
      rw [BitVec.slt_iff_toInt_lt] at this
      rw [BitVec.toInt_eq_toNat_of_lt (by omega)] at this
      omega
    have hemit : r.emit N xp ol = IntOp.xori (r.blank N xp) 1#1 := by
      rw [emit, hl]
      exact BitVec.allOnes_and (x := IntOp.xori (r.blank N xp) 1#1)
    have hadv : r.adv N xp ol = IntOp.ori (r.blank N xp) (IntOp.cmpi .sge (r.sym1 N xp ol) 2#32) := by
      rw [adv, hl]
      exact BitVec.allOnes_and (x := IntOp.ori (r.blank N xp) (IntOp.cmpi .sge (r.sym1 N xp ol) 2#32))
    have hgo : ∀ (t s : BitVec 32), t.toNat ≤ 64 → s.toNat ≤ 1 → k + 1 ≤ 2 * t.toNat + s.toNat →
        (r.step N xp ol).time = t → (r.step N xp ol).sym = s → (r.step N xp ol).Gone ol (k + 1) := fun t s h1 h2 h3 e1 e2 => by
      subst e1 e2; exact ⟨h1, h2, Or.inr h3⟩
    have hup : (r.time + 1#32).toNat = r.time.toNat + 1 := by
      rw [BitVec.toNat_add]; show (r.time.toNat + 1) % 2 ^ 32 = _; omega
    rcases BitVec.eq_zero_or_eq_one (r.blank N xp) with hb | hb
    · have he : r.emit N xp ol = 1#1 := by rw [hemit, hb]; rfl
      have h1 : r.sym1 N xp ol = r.sym + 1#32 := by rw [sym1, he]; rfl
      rcases (show r.sym = 0#32 ∨ r.sym = 1#32 by
        rcases (show r.sym.toNat = 0 ∨ r.sym.toNat = 1 by omega) with h | h
        · exact Or.inl (BitVec.eq_of_toNat_eq h)
        · exact Or.inr (BitVec.eq_of_toNat_eq h)) with hsym | hsym
      · have ha : r.adv N xp ol = 0#1 := by rw [hadv, hb, h1, hsym]; rfl
        refine hgo r.time 1#32 ht (by decide) ?_ ?_ ?_
        · rw [hsym] at hk; simp at hk ⊢; omega
        · show r.time + BitVec.setWidth 32 (r.adv N xp ol) = _
          rw [ha]; exact BitVec.add_zero _
        · show Scalar.select (r.adv N xp ol) _ (r.sym1 N xp ol) = _
          rw [ha, h1, hsym]; rfl
      · have ha : r.adv N xp ol = 1#1 := by rw [hadv, hb, h1, hsym]; rfl
        refine hgo (r.time + 1#32) 0#32 (by omega) (by decide) ?_ ?_ ?_
        · rw [hsym] at hk; rw [hup]; simp at hk ⊢; omega
        · show r.time + BitVec.setWidth 32 (r.adv N xp ol) = _
          rw [ha]; rfl
        · show Scalar.select (r.adv N xp ol) _ (r.sym1 N xp ol) = _
          rw [ha]; rfl
    · have ha : r.adv N xp ol = 1#1 := by
        rw [hadv, hb]
        exact BitVec.allOnes_or (x := IntOp.cmpi .sge (r.sym1 N xp ol) 2#32)
      refine hgo (r.time + 1#32) 0#32 (by omega) (by decide) ?_ ?_ ?_
      · rw [hup]; simp; omega
      · show r.time + BitVec.setWidth 32 (r.adv N xp ol) = _
        rw [ha]; rfl
      · show Scalar.select (r.adv N xp ol) _ (r.sym1 N xp ol) = _
        rw [ha]; rfl

/-- It holds after any number of steps from the start. -/
theorem gone_steps (hol : ol.toInt ≤ 64) : ∀ k, ((step N xp ol)^[k] start).Gone ol k
  | 0 => ⟨Nat.zero_le 64, Nat.zero_le 1, Or.inr (Nat.zero_le _)⟩
  | k + 1 => by
    rw [Function.iterate_succ_apply']
    exact gone_step N xp ol _ hol k (gone_steps hol k)

/-- After 128 steps a row of at most 64 frames is finished. -/
theorem done_128 (hol : ol.toInt ≤ 64) : ((step N xp ol)^[128] start).live ol = 0#1 := by
  obtain ⟨ht, hs, h | h⟩ := gone_steps N xp ol hol 128
  · exact h
  · generalize (step N xp ol)^[128] start = r at *
    have : r.time.toNat = 64 := by omega
    have hn : r.time.slt ol = false := by
      rw [Bool.eq_false_iff, Ne, BitVec.slt_iff_toInt_lt, BitVec.toInt_eq_toNat_of_lt (by omega)]
      omega
    unfold live IntOp.cmpi
    simp [hn]

/-- What a row of at most 64 frames has written after 192 steps is what it had after 128. -/
theorem steps_192 (hol : ol.toInt ≤ 64) : ((step N xp ol)^[192] start).len = ((step N xp ol)^[128] start).len
    ∧ ((step N xp ol)^[192] start).score = ((step N xp ol)^[128] start).score
    ∧ ((step N xp ol)^[192] start).out = ((step N xp ol)^[128] start).out := by
  rw [show 192 = 64 + 128 from rfl, Function.iterate_add_apply]
  exact steps_done N xp ol 64 _ (done_128 N xp ol hol)

end Row

end Cert.Proof

end
-- ==== Proof.KernelRow.lean ====
module

public import proofs.«01_k».proof.Proof.Loop
public import proofs.«01_k».proof.Proof.Spec
public import proofs.«01_k».proof.Proof.Gen.KernelIdeal

/-! A row of the kernel's carried values goes through the decode loop as the row of the specification does. -/

@[expose] public section

noncomputable section

namespace Cert.Proof.KI

open Cert.KernelIdeal Cert.KernelIdeal.Gen Idealize.ShloMosaic

attribute [local instance] Cert.KernelIdeal.Gen.facts

/-- The weights held in the kernel's windows. -/
def net (f3 : Vec Ideal S1025x320 .bf16) (f4 f5 : Vec Ideal S320x1280 .bf16) (f6 : Vec Ideal S320x320 .bf16)
    (f7 : Vec Ideal S320x1025 .bf16) : Net where
  joint := fun i k => f7 (ix2 i k)
  embed := fun l i => f3 (ix2 l i)
  wi := fun i k => f4 (ix2 i k)
  wh := fun i k => f5 (ix2 i k)
  pred := fun i k => f6 (ix2 i k)

/-- Row `b` of the carried values and of the symbols written. -/
def rowOf (b : Fin 32) (a : Acc Ideal) (y : Vec Ideal S32x128 .i32) : Row where
  time := a.1 (ix2 b 0)
  len := a.2.1 (ix2 b 0)
  sym := a.2.2.1 (ix2 b 0)
  score := a.2.2.2.1 (ix2 b 0)
  h := fun i => a.2.2.2.2.1 (ix2 b i)
  c := fun i => a.2.2.2.2.2.1 (ix2 b i)
  dec := fun i => a.2.2.2.2.2.2.1 (ix2 b i)
  out := fun j => y (ix2 b j)

/-- Row `b` of the projected frames. -/
def xpOf (x : Vec Ideal S32x64x320 .f32) (b : Fin 32) : Fin 64 → Fin 320 → EReal := fun t i => x (ix3 b t i)

/-- The carried frame is the one the frame words name. -/
def Fresh (x : Vec Ideal S32x64x320 .f32) (a : Acc Ideal) : Prop :=
  ∀ (b : Fin 32) (i : Fin 320), a.2.2.2.2.2.2.2 (ix2 b i) = x (ix3 b (frameAt (clip (a.1 (ix2 b 0)))) i)

/-- A one-hot word's float. -/
theorem onehot_word (x l : Fin 1025) : (FloatOps.sitofp FTy.f32 (BitVec.setWidth 32 (IntOp.cmpi .eq (BitVec.ofNat 32 x.val) (BitVec.ofNat 32 l.val))) : Ideal .f32)
    = if x = l then (1 : EReal) else 0 := by
  by_cases h : x = l
  · subst h
    rw [if_pos rfl, show IntOp.cmpi .eq (BitVec.ofNat 32 x.val) (BitVec.ofNat 32 x.val) = 1#1 by simp [IntOp.cmpi]]
    show (((1#32).toInt : ℝ) : EReal) = 1
    simp
  · have hne : ¬ BitVec.ofNat 32 x.val = BitVec.ofNat 32 l.val := fun e => h (Fin.ext (by
      have := congrArg BitVec.toNat e
      rw [BitVec.toNat_ofNat, BitVec.toNat_ofNat, Nat.mod_eq_of_lt (by omega), Nat.mod_eq_of_lt (by omega)] at this
      exact this))
    rw [if_neg h, show IntOp.cmpi .eq (BitVec.ofNat 32 x.val) (BitVec.ofNat 32 l.val) = 0#1 by simp only [IntOp.cmpi, beq_eq_false_iff_ne.mpr hne]; rfl]
    show (((0#32).toInt : ℝ) : EReal) = 0
    simp

/-- A one-hot row times a table is the table's row. -/
theorem onehot_sum (l : Fin 1025) (f : Fin 1025 → EReal) :
    ∑ x : Fin 1025, (FloatOps.sitofp FTy.f32 (BitVec.setWidth 32 (IntOp.cmpi .eq (BitVec.ofNat 32 x.val) (BitVec.ofNat 32 l.val))) : Ideal .f32) * f x = f l := by
  rw [Finset.sum_eq_single l]
  · rw [onehot_word, if_pos rfl, one_mul]
  · intro x _ h
    rw [onehot_word, if_neg h, zero_mul]
  · exact fun h => absurd (Finset.mem_univ l) h

section
variable (v11 : Vec Ideal S32x1 .i32) (f3 : Vec Ideal S1025x320 .bf16) (f4 f5 : Vec Ideal S320x1280 .bf16)
  (f6 : Vec Ideal S320x320 .bf16) (f7 : Vec Ideal S320x1025 .bf16) (x : Vec Ideal S32x64x320 .f32)
  (a : Acc Ideal) (y : Vec Ideal S32x128 .i32) (hf : Fresh x a) (b : Fin 32)
include hf

/-- The scores of a row are those of the specification. -/
theorem logits_row (k : Fin 1025) : k0_pay13 a.2.2.2.2.2.2.1 a.2.2.2.2.2.2.2 f7 (ix2 b k)
    = (rowOf b a y).logits (net f3 f4 f5 f6 f7) (xpOf x b) k := by
  obtain ⟨a1, a2, a3, a4, a5, a6, a7, a8⟩ := a
  show k0_pay13 a7 a8 f7 (ix2 b k) = ∑ i, max (x (ix3 b _ i) + a7 (ix2 b i)) 0 * f7 (ix2 i k)
  pointwise [k0_pay13]
  refine Finset.sum_congr rfl fun i _ => ?_
  rw [show a8 (ix2 b i) = _ from hf b i]; rfl

/-- The score a row adds is the greatest of its labels' scores. -/
theorem best_row : k0_pay14 a.2.2.2.2.2.2.1 a.2.2.2.2.2.2.2 f7 (ix2 b 0)
    = (rowOf b a y).logits (net f3 f4 f5 f6 f7) (xpOf x b) ((rowOf b a y).lab (net f3 f4 f5 f6 f7) (xpOf x b)) := by
  have hl := logits_row f3 f4 f5 f6 f7 x a y hf b
  unfold Row.lab
  revert hl
  generalize (rowOf b a y).logits (net f3 f4 f5 f6 f7) (xpOf x b) = l
  generalize a.2.2.2.2.2.2.1 = d
  generalize a.2.2.2.2.2.2.2 = e
  intro hl
  refine Eq.trans ?_ (fold_max_pick l)
  pointwise [k0_pay14]
  rw [show (fun k => k0_pay13 d e f7 (ix2 b k)) = l from funext hl]

/-- So is the label picked. -/
theorem label_row : label iota13 f7 a (ix2 b 0) = (rowOf b a y).word (net f3 f4 f5 f6 f7) (xpOf x b) := by
  have hl := logits_row f3 f4 f5 f6 f7 x a y hf b
  have hm := best_row f3 f4 f5 f6 f7 x a y hf b
  unfold Row.lab at hm
  unfold label Row.word Row.lab
  revert hl hm
  generalize (rowOf b a y).logits (net f3 f4 f5 f6 f7) (xpOf x b) = l
  generalize a.2.2.2.2.2.2.1 = d
  generalize a.2.2.2.2.2.2.2 = e
  intro hl hm
  refine Eq.trans ?_ (fold_min_pick l (by decide))
  pointwise [k0_pay15]
  rw [hm]
  refine congrArg (fun g => Finset.fold IntOp.minsi 2147483647#32 g Finset.univ) (funext fun k => ?_)
  rw [hl k]

/-- Whether it is the blank. -/
theorem blank_row : blank iota13 f7 a (ix2 b 0) = (rowOf b a y).blank (net f3 f4 f5 f6 f7) (xpOf x b) := by
  have hl := label_row f3 f4 f5 f6 f7 x a y hf b
  unfold blank Row.blank
  rw [← hl]
  unfold label
  pointwise [k0_pay16]
omit hf in
/-- Whether the row is still decoding. -/
theorem live_row : live v11 a (ix2 b 0) = (rowOf b a y).live (v11 (ix2 b 0)) := by
  unfold live Row.live
  pointwise [k0_pay12, k0_pay4]
  rfl
/-- Whether it writes a symbol. -/
theorem emit_row : emits v11 iota13 f7 a (ix2 b 0) = (rowOf b a y).emit (net f3 f4 f5 f6 f7) (xpOf x b) (v11 (ix2 b 0)) := by
  have hb := blank_row f3 f4 f5 f6 f7 x a y hf b
  unfold blank at hb
  unfold emits Row.emit Row.live
  rw [← hb]
  pointwise [k0_pay17, k0_pay12, k0_pay4]
  rfl

/-- The symbols of its frame. -/
theorem sym1_row : k0_pay22 a.2.2.1 (emits v11 iota13 f7 a) (k0_pay21 a.2.2.1) (ix2 b 0)
    = (rowOf b a y).sym1 (net f3 f4 f5 f6 f7) (xpOf x b) (v11 (ix2 b 0)) := by
  have he := emit_row v11 f3 f4 f5 f6 f7 x a y hf b
  unfold Row.sym1
  rw [← he]
  generalize emits v11 iota13 f7 a = e
  pointwise [k0_pay22, k0_pay21]
  rfl

/-- Whether it goes on to its next frame. -/
theorem adv_row : k0_pay23 a.2.2.1 (live v11 a) (blank iota13 f7 a) (emits v11 iota13 f7 a) (k0_pay21 a.2.2.1) (ix2 b 0)
    = (rowOf b a y).adv (net f3 f4 f5 f6 f7) (xpOf x b) (v11 (ix2 b 0)) := by
  have hs := sym1_row v11 f3 f4 f5 f6 f7 x a y hf b
  have hb := blank_row f3 f4 f5 f6 f7 x a y hf b
  have hl := live_row v11 a y b
  unfold Row.adv
  rw [← hs, ← hb, ← hl]
  generalize emits v11 iota13 f7 a = e
  generalize blank iota13 f7 a = e'
  generalize live v11 a = e''
  pointwise [k0_pay23]

/-- The gates. -/
theorem gates_row (k : Fin 1280) : k0_pay27 iota13 a.2.2.2.2.1 (label iota13 f7 a) f3 f4 f5 (ix2 b k)
    = (rowOf b a y).gates (net f3 f4 f5 f6 f7) (xpOf x b) k := by
  have hl := label_row f3 f4 f5 f6 f7 x a y hf b
  unfold Row.gates
  revert hl
  generalize label iota13 f7 a = w
  unfold Row.word
  generalize (rowOf b a y).lab (net f3 f4 f5 f6 f7) (xpOf x b) = l
  intro hl
  pointwise [k0_pay27]
  rw [hl]
  simp only [onehot_sum]
  rfl

/-- The new cell. -/
theorem cell_row (j : Fin 320) : k0_pay28 iota13 a.2.2.2.2.1 a.2.2.2.2.2.1 (label iota13 f7 a) f3 f4 f5 (ix2 b j)
    = (rowOf b a y).cell (net f3 f4 f5 f6 f7) (xpOf x b) j := by
  unfold Row.cell
  rw [← gates_row f3 f4 f5 f6 f7 x a y hf b, ← gates_row f3 f4 f5 f6 f7 x a y hf b, ← gates_row f3 f4 f5 f6 f7 x a y hf b]
  pointwise [k0_pay28]
  rfl

/-- The new hidden state. -/
theorem hid_row (j : Fin 320) : k0_pay30 (k0_pay28 iota13 a.2.2.2.2.1 a.2.2.2.2.2.1 (label iota13 f7 a) f3 f4 f5) (k0_pay29 iota13 a.2.2.2.2.1 (label iota13 f7 a) f3 f4 f5) (ix2 b j)
    = (rowOf b a y).hid (net f3 f4 f5 f6 f7) (xpOf x b) j := by
  unfold Row.hid
  rw [← cell_row f3 f4 f5 f6 f7 x a y hf b, ← gates_row f3 f4 f5 f6 f7 x a y hf b]
  pointwise [k0_pay30, k0_pay29]
  rfl

/-- A row's step. -/
theorem step_row : rowOf b (stepAcc v11 iota13 f7 a f3 f4 f5 f6 x) (stepHyps v11 iota13 f7 a iota14 y)
    = (rowOf b a y).step (net f3 f4 f5 f6 f7) (xpOf x b) (v11 (ix2 b 0)) := by
  have hl := label_row f3 f4 f5 f6 f7 x a y hf b
  have hlo := logits_row f3 f4 f5 f6 f7 x a y hf b
  have he := emit_row v11 f3 f4 f5 f6 f7 x a y hf b
  have ha := adv_row v11 f3 f4 f5 f6 f7 x a y hf b
  have hs := sym1_row v11 f3 f4 f5 f6 f7 x a y hf b
  have hc := cell_row f3 f4 f5 f6 f7 x a y hf b
  have hh := hid_row f3 f4 f5 f6 f7 x a y hf b
  refine Row.ext ?_ ?_ ?_ ?_ ?_ ?_ ?_ ?_ <;> unfold Row.step <;> dsimp only
  · rw [← ha]
    unfold rowOf stepAcc
    pointwise [k0_pay25]
  · rw [← he]
    unfold rowOf stepAcc emits
    pointwise [k0_pay19]
  · rw [← ha, ← hs]
    unfold rowOf stepAcc
    pointwise [k0_pay24]
  · rw [← he, ← best_row f3 f4 f5 f6 f7 x a y hf b]
    unfold rowOf stepAcc emits
    pointwise [k0_pay20]
  · funext j
    rw [← he, ← hh]
    unfold rowOf stepAcc
    pointwise [k0_pay31]
  · funext j
    rw [← he, ← hc]
    unfold rowOf stepAcc
    pointwise [k0_pay32]
  · funext j
    rw [← he]
    simp only [← hh]
    unfold rowOf stepAcc
    pointwise [k0_pay33]
    rfl
  · funext j
    rw [← he, ← hl]
    unfold Row.pos rowOf stepHyps emits label
    pointwise [k0_pay18]

omit hf in
/-- After a step the carried frame is the one the new words name. -/
theorem fresh_step : Fresh x (stepAcc v11 iota13 f7 a f3 f4 f5 f6 x) := fun b i => by
  show x (ix3 b (frameAt (words v11 iota13 f7 a (ix2 b 0))) i) = _
  rw [show words v11 iota13 f7 a (ix2 b 0) = clip ((stepAcc v11 iota13 f7 a f3 f4 f5 f6 x).1 (ix2 b 0)) by
    unfold words stepAcc clip
    pointwise [k0_pay26]]

end

section
variable (f0 : Vec Ideal S2048x256 .bf16) (f1 : Vec Ideal S32x1 .i32) (f2 : Vec Ideal S256x320 .bf16) (f3 : Vec Ideal S1025x320 .bf16) (f4 f5 : Vec Ideal S320x1280 .bf16)
  (f6 : Vec Ideal S320x320 .bf16) (f7 : Vec Ideal S320x1025 .bf16) (b : Fin 32)

/-- The projected frames. -/
theorem frames_apply (t : Fin 64) (j : Fin 320) : xpOf (k0_pay2 f0 f2) b t j = ∑ i, f0 (ix2 ⟨b.val * 64 + t.val, by omega⟩ i) * f2 (ix2 i j) := by
  show k0_pay2 f0 f2 (ix3 b t j) = _
  pointwise [k0_pay2, k0_pay1]

/-- A row after all trips of the loop. -/
theorem final_row : rowOf b (final f0 f1 f2 f3 f4 f5 f6 f7).1 (final f0 f1 f2 f3 f4 f5 f6 f7).2
    = (Row.step (net f3 f4 f5 f6 f7) (xpOf (k0_pay2 f0 f2) b) (f1 (ix2 b 0)))^[128] Row.start := by
  unfold final
  generalize hx : k0_pay2 f0 f2 = x
  generalize 128 = n
  have h : ∀ k : ℕ, Fresh x (runSteps f1 iota13 iota14 f3 f4 f5 f6 f7 x (k0_pay5, k0_pay5, k0_pay5, k0_pay7, k0_pay8, k0_pay9, k0_pay10, k0_pay6 f0 f2) k0_pay3 k).1
      ∧ rowOf b (runSteps f1 iota13 iota14 f3 f4 f5 f6 f7 x (k0_pay5, k0_pay5, k0_pay5, k0_pay7, k0_pay8, k0_pay9, k0_pay10, k0_pay6 f0 f2) k0_pay3 k).1
          (runSteps f1 iota13 iota14 f3 f4 f5 f6 f7 x (k0_pay5, k0_pay5, k0_pay5, k0_pay7, k0_pay8, k0_pay9, k0_pay10, k0_pay6 f0 f2) k0_pay3 k).2
        = (Row.step (net f3 f4 f5 f6 f7) (xpOf x b) (f1 (ix2 b 0)))^[k] Row.start := fun k => by
    induction k with
    | zero =>
      refine ⟨fun b i => ?_, ?_⟩
      · subst hx
        show k0_pay6 f0 f2 (ix2 b i) = k0_pay2 f0 f2 (ix3 b (frameAt (clip (k0_pay5 (ix2 b 0)))) i)
        rw [show frameAt (clip (k0_pay5 (ix2 b 0))) = 0 by
          rw [show k0_pay5 (ix2 b 0) = 0#32 by pointwise [k0_pay5]]
          rfl]
        pointwise [k0_pay6, k0_pay2, k0_pay1]
      · show rowOf b (k0_pay5, k0_pay5, k0_pay5, k0_pay7, k0_pay8, k0_pay9, k0_pay10, k0_pay6 f0 f2) k0_pay3 = Row.start
        refine Row.ext ?_ ?_ ?_ ?_ ?_ ?_ ?_ ?_ <;> unfold Row.start rowOf <;> dsimp only
        · pointwise [k0_pay5]
        · pointwise [k0_pay5]
        · pointwise [k0_pay5]
        · pointwise [k0_pay7]
        · funext j; pointwise [k0_pay8]
        · funext j; pointwise [k0_pay9]
        · funext j; pointwise [k0_pay10]
        · funext j; pointwise [k0_pay3]
    | succ k ih =>
      rw [Function.iterate_succ_apply', ← ih.2]
      exact ⟨fresh_step f1 f3 f4 f5 f6 f7 x _, step_row f1 f3 f4 f5 f6 f7 x _ _ ih.1 b⟩
  exact (h n).2

end

end Cert.Proof.KI

end
-- ==== Proof.Blocks.lean ====
module

public import proofs.«01_k».proof.Proof.Ends
public import proofs.«01_k».proof.Proof.KernelRow

/-! The kernel's windows by the program's arguments. -/

@[expose] public section

noncomputable section

namespace Cert.Proof.KI

open Cert.KernelIdeal Cert.KernelIdeal.Gen
open Idealize.ShloMosaic
open Idealize.ShloMosaic.TcCoe Idealize.ShloMosaic.Tactic

attribute [local instance] Cert.KernelIdeal.Gen.facts

variable (m : (ℓ : Loc nD τ sig) → Buf (Elt Ideal) ℓ) (c : Dev nD)

attribute [local irreducible] final

/-- Window 0's block is its whole array. -/
theorem whole0 (y : S2048x256.Idx) : iblk m c 0 t0_0 y = V m c (Pipeline.arrRef spec0 0) y := by
  refine congrArg (V m c (Pipeline.arrRef spec0 0)) (funext fun a => Fin.ext ?_)
  exact Pipeline.Window.rect_emb_val_of_index_zero win0_0 t0_0 a rfl y

/-- Window 1's block is its whole array. -/
theorem whole1 (y : S32x1.Idx) : iblk m c 1 t0_0 y = V m c (Pipeline.arrRef spec0 1) y := by
  refine congrArg (V m c (Pipeline.arrRef spec0 1)) (funext fun a => Fin.ext ?_)
  exact Pipeline.Window.rect_emb_val_of_index_zero win0_1 t0_0 a rfl y

/-- Window 2's block is its whole array. -/
theorem whole2 (y : S256x320.Idx) : iblk m c 2 t0_0 y = V m c (Pipeline.arrRef spec0 2) y := by
  refine congrArg (V m c (Pipeline.arrRef spec0 2)) (funext fun a => Fin.ext ?_)
  exact Pipeline.Window.rect_emb_val_of_index_zero win0_2 t0_0 a rfl y

/-- Window 3's block is its whole array. -/
theorem whole3 (y : S1025x320.Idx) : iblk m c 3 t0_0 y = V m c (Pipeline.arrRef spec0 3) y := by
  refine congrArg (V m c (Pipeline.arrRef spec0 3)) (funext fun a => Fin.ext ?_)
  exact Pipeline.Window.rect_emb_val_of_index_zero win0_3 t0_0 a rfl y

/-- Window 4's block is its whole array. -/
theorem whole4 (y : S320x1280.Idx) : iblk m c 4 t0_0 y = V m c (Pipeline.arrRef spec0 4) y := by
  refine congrArg (V m c (Pipeline.arrRef spec0 4)) (funext fun a => Fin.ext ?_)
  exact Pipeline.Window.rect_emb_val_of_index_zero win0_4 t0_0 a rfl y

/-- Window 5's block is its whole array. -/
theorem whole5 (y : S320x1280.Idx) : iblk m c 5 t0_0 y = V m c (Pipeline.arrRef spec0 5) y := by
  refine congrArg (V m c (Pipeline.arrRef spec0 5)) (funext fun a => Fin.ext ?_)
  exact Pipeline.Window.rect_emb_val_of_index_zero win0_5 t0_0 a rfl y

/-- Window 6's block is its whole array. -/
theorem whole6 (y : S320x320.Idx) : iblk m c 6 t0_0 y = V m c (Pipeline.arrRef spec0 6) y := by
  refine congrArg (V m c (Pipeline.arrRef spec0 6)) (funext fun a => Fin.ext ?_)
  exact Pipeline.Window.rect_emb_val_of_index_zero win0_6 t0_0 a rfl y

/-- Window 7's block is its whole array. -/
theorem whole7 (y : S320x1025.Idx) : iblk m c 7 t0_0 y = V m c (Pipeline.arrRef spec0 7) y := by
  refine congrArg (V m c (Pipeline.arrRef spec0 7)) (funext fun a => Fin.ext ?_)
  exact Pipeline.Window.rect_emb_val_of_index_zero win0_7 t0_0 a rfl y

/-- The frames laid out as a matrix, one frame a row. -/
theorem flat_frames (f : Vec Ideal S32x64x256 .f32) (h : S32x64x256.ShapeCasts S2048x256) (b : Fin 32) (t : Fin 64) (i : Fin 256) :
    shapeCast S2048x256 f h (ix2 (⟨b.val * 64 + t.val, by omega⟩ : Fin 2048) i) = f (ix3 b t i) := by
  pointwise []

/-- A list laid out as a column. -/
theorem column (f : IVec S32 32) (h : S32.ShapeCasts S32x1) (b : Fin 32) : shapeCast S32x1 f h (ix2 b 0) = f (ix1 b) := by
  pointwise []

/-- The encoder's frames. -/
theorem blk0 (b : Fin 32) (t : Fin 64) (i : Fin 256) : @Eq EReal (iblk m c 0 t0_0 (ix2 (⟨b.val * 64 + t.val, by omega⟩ : Fin 2048) i)) (m ((c.tc : Thread nD τ).loc main_arg0) (ix3 b t i)) := by
  refine (whole0 m c _).trans ?_
  simp only [V, V0, Pipeline.arrRef, hostOps0, List.flatten_cons, List.flatten_nil, List.append_nil]
  after_region_results
  exact flat_frames (m ((c.tc : Thread nD τ).loc main_arg0)) _ b t i

/-- A row's length. -/
theorem blk1 (b : Fin 32) : @Eq (BitVec 32) (iblk m c 1 t0_0 (ix2 b 0)) (m ((c.tc : Thread nD τ).loc main_arg1) (ix1 b)) := by
  refine (whole1 m c _).trans ?_
  simp only [V, V0, Pipeline.arrRef, hostOps0, List.flatten_cons, List.flatten_nil, List.append_nil]
  after_region_results
  exact column (m ((c.tc : Thread nD τ).loc main_arg1)) _ b

/-- The encoder's projection. -/
theorem blk2 (i : Fin 256) (j : Fin 320) : @Eq EReal (iblk m c 2 t0_0 (ix2 i j)) (m ((c.tc : Thread nD τ).loc main_arg2) (ix2 i j)) := by
  refine (whole2 m c _).trans ?_
  simp only [V, V0, Pipeline.arrRef, hostOps0, List.flatten_cons, List.flatten_nil, List.append_nil]
  after_region_results
  rfl

/-- The embeddings. -/
theorem blk3 (i : Fin 1025) (j : Fin 320) : @Eq EReal (iblk m c 3 t0_0 (ix2 i j)) (m ((c.tc : Thread nD τ).loc main_arg4) (ix2 i j)) := by
  refine (whole3 m c _).trans ?_
  simp only [V, V0, Pipeline.arrRef, hostOps0, List.flatten_cons, List.flatten_nil, List.append_nil]
  after_region_results
  rfl

/-- The input weights. -/
theorem blk4 (i : Fin 320) (j : Fin 1280) : @Eq EReal (iblk m c 4 t0_0 (ix2 i j)) (m ((c.tc : Thread nD τ).loc main_arg5) (ix2 i j)) := by
  refine (whole4 m c _).trans ?_
  simp only [V, V0, Pipeline.arrRef, hostOps0, List.flatten_cons, List.flatten_nil, List.append_nil]
  after_region_results
  rfl

/-- The hidden weights. -/
theorem blk5 (i : Fin 320) (j : Fin 1280) : @Eq EReal (iblk m c 5 t0_0 (ix2 i j)) (m ((c.tc : Thread nD τ).loc main_arg6) (ix2 i j)) := by
  refine (whole5 m c _).trans ?_
  simp only [V, V0, Pipeline.arrRef, hostOps0, List.flatten_cons, List.flatten_nil, List.append_nil]
  after_region_results
  rfl

/-- The decoder's projection. -/
theorem blk6 (i : Fin 320) (j : Fin 320) : @Eq EReal (iblk m c 6 t0_0 (ix2 i j)) (m ((c.tc : Thread nD τ).loc main_arg8) (ix2 i j)) := by
  refine (whole6 m c _).trans ?_
  simp only [V, V0, Pipeline.arrRef, hostOps0, List.flatten_cons, List.flatten_nil, List.append_nil]
  after_region_results
  rfl

/-- The joint weights. -/
theorem blk7 (i : Fin 320) (j : Fin 1025) : @Eq EReal (iblk m c 7 t0_0 (ix2 i j)) (m ((c.tc : Thread nD τ).loc main_arg10) (ix2 i j)) := by
  refine (whole7 m c _).trans ?_
  simp only [V, V0, Pipeline.arrRef, hostOps0, List.flatten_cons, List.flatten_nil, List.append_nil]
  after_region_results
  rfl

/-- The weights among the arguments. -/
def argNet : Net where
  joint := fun i k => m ((c.tc : Thread nD τ).loc main_arg10) (ix2 i k)
  embed := fun l i => m ((c.tc : Thread nD τ).loc main_arg4) (ix2 l i)
  wi := fun i k => m ((c.tc : Thread nD τ).loc main_arg5) (ix2 i k)
  wh := fun i k => m ((c.tc : Thread nD τ).loc main_arg6) (ix2 i k)
  pred := fun i k => m ((c.tc : Thread nD τ).loc main_arg8) (ix2 i k)

/-- Row `b` of the encoder's frames, projected. -/
def argFrames (b : Fin 32) : Fin 64 → Fin 320 → EReal := fun t j =>
  ∑ i : Fin 256, HMul.hMul (α := EReal) (β := EReal) (γ := EReal) (m ((c.tc : Thread nD τ).loc main_arg0) (ix3 b t i)) (m ((c.tc : Thread nD τ).loc main_arg2) (ix2 i j))

/-- The windows' weights are the arguments'. -/
theorem net_blk : net (iblk m c 3 t0_0) (iblk m c 4 t0_0) (iblk m c 5 t0_0) (iblk m c 6 t0_0) (iblk m c 7 t0_0) = argNet m c := by
  unfold net argNet
  rw [Net.mk.injEq]
  exact ⟨funext fun i => funext fun k => blk7 m c i k, funext fun i => funext fun k => blk3 m c i k,
    funext fun i => funext fun k => blk4 m c i k, funext fun i => funext fun k => blk5 m c i k,
    funext fun i => funext fun k => blk6 m c i k⟩

/-- The projected frames are the arguments'. -/
theorem frames_blk (b : Fin 32) : xpOf (k0_pay2 (iblk m c 0 t0_0) (iblk m c 2 t0_0)) b = argFrames m c b := by
  funext t j
  refine (frames_apply _ _ b t j).trans (Finset.sum_congr rfl fun i _ => ?_)
  exact congrArg₂ (fun x y : EReal => x * y) (blk0 m c b t i) (blk2 m c i j)

/-- A row of what the kernel's loop leaves, by the arguments. -/
theorem left_row (b : Fin 32) : rowOf b (left m c t0_0).1 (left m c t0_0).2
    = (Row.step (argNet m c) (argFrames m c b) (m ((c.tc : Thread nD τ).loc main_arg1) (ix1 b)))^[128] Row.start := by
  unfold left
  rw [final_row, net_blk, frames_blk]
  exact congrArg (fun w => (Row.step (argNet m c) (argFrames m c b) w)^[128] Row.start) (blk1 m c b)

end Cert.Proof.KI

end
-- ==== Proof.Index.lean ====
module

public import Idealize.ShloMosaic.Lib.Pointwise
public import Idealize.ShloMosaic.Lib.Routing.OpsSet
public import proofs.«01_k».proof.Proof.Gen.ReferenceIdeal

/-! The reference's gathers and its scatter, read at an index. -/

@[expose] public section

noncomputable section

namespace Cert.Proof.RI

open Cert.ReferenceIdeal Cert.ReferenceIdeal.Gen Idealize.ShloMosaic

attribute [local instance] Cert.ReferenceIdeal.Gen.facts

/-- A small word read signed and cut off at a bound it respects. -/
theorem word_min (n m : ℕ) (h : n ≤ m) (hm : m < 2 ^ 31) : min (BitVec.ofNat 32 n).toInt.toNat m = n := by
  have : (BitVec.ofNat 32 n).toNat = n := by rw [BitVec.toNat_ofNat]; omega
  rw [BitVec.toInt_eq_toNat_of_lt (by omega), this]
  omega

/-- A small word read signed. -/
theorem word_int (n : ℕ) (h : n < 2 ^ 31) : (BitVec.ofNat 32 n).toInt = n := by
  have : (BitVec.ofNat 32 n).toNat = n := by rw [BitVec.toNat_ofNat]; omega
  rw [BitVec.toInt_eq_toNat_of_lt (by omega), this]

variable {α : Type}

/-- A row's frame. -/
theorem gather_frame (x : S32x64x320.Idx → α) (idx : IVec S32x2 32) (b : Fin 32) (i : Fin 320) (t : Fin 64)
    (h0 : idx (ix2 b 0) = BitVec.ofNat 32 b.val) (h1 : idx (ix2 b 1) = BitVec.ofNat 32 t.val) :
    Host.gather gather_S32x64x320_S32x2_S32x320_1_01_n_n_01_1_11320 x idx (ix2 b i) = x (ix3 b t i) := by
  have s0 : ∀ h, gather_S32x64x320_S32x2_S32x320_1_01_n_n_01_1_11320.siIdx (ix2 b i) ⟨0, h⟩ = ix2 b 0 := fun h => by
    funext a; fin_cases a <;> rfl
  have s1 : ∀ h, gather_S32x64x320_S32x2_S32x320_1_01_n_n_01_1_11320.siIdx (ix2 b i) ⟨1, h⟩ = ix2 b 1 := fun h => by
    funext a; fin_cases a <;> rfl
  refine congrArg x (funext fun a => Fin.ext ?_)
  fin_cases a
  · exact (congrArg (fun w : BitVec 32 => min w.toInt.toNat 31) ((congrArg idx (s0 (by decide))).trans h0)).trans (word_min _ _ (by omega) (by decide))
  · exact (congrArg (fun w : BitVec 32 => min w.toInt.toNat 63) ((congrArg idx (s1 (by decide))).trans h1)).trans (word_min _ _ (by omega) (by decide))
  · show 0 + 0 + i.val = i.val
    omega

/-- A row's entry among the symbols written. -/
theorem gather_out (x : S32x128.Idx → α) (idx : IVec S32x2 32) (b : Fin 32) (p : Fin 128)
    (h0 : idx (ix2 b 0) = BitVec.ofNat 32 b.val) (h1 : idx (ix2 b 1) = BitVec.ofNat 32 p.val) :
    Host.gather gather_S32x128_S32x2_S32_n_01_n_n_01_1_11 x idx (ix1 b) = x (ix2 b p) := by
  have s0 : ∀ h, gather_S32x128_S32x2_S32_n_01_n_n_01_1_11.siIdx (ix1 b) ⟨0, h⟩ = ix2 b 0 := fun h => by
    funext a; fin_cases a <;> rfl
  have s1 : ∀ h, gather_S32x128_S32x2_S32_n_01_n_n_01_1_11.siIdx (ix1 b) ⟨1, h⟩ = ix2 b 1 := fun h => by
    funext a; fin_cases a <;> rfl
  refine congrArg x (funext fun a => Fin.ext ?_)
  fin_cases a
  · exact (congrArg (fun w : BitVec 32 => min w.toInt.toNat 31) ((congrArg idx (s0 (by decide))).trans h0)).trans (word_min _ _ (by omega) (by decide))
  · exact (congrArg (fun w : BitVec 32 => min w.toInt.toNat 127) ((congrArg idx (s1 (by decide))).trans h1)).trans (word_min _ _ (by omega) (by decide))

/-- A label's embedding. -/
theorem gather_embed (x : S1025x320.Idx → α) (idx : IVec S32x1 32) (b : Fin 32) (i : Fin 320) (l : Fin 1025)
    (h0 : idx (ix2 b 0) = BitVec.ofNat 32 l.val) :
    Host.gather gather_S1025x320_S32x1_S32x320_1_0_n_n_0_1_1320 x idx (ix2 b i) = x (ix2 l i) := by
  have s0 : ∀ h, gather_S1025x320_S32x1_S32x320_1_0_n_n_0_1_1320.siIdx (ix2 b i) ⟨0, h⟩ = ix2 b 0 := fun h => by
    funext a; fin_cases a <;> rfl
  refine congrArg x (funext fun a => Fin.ext ?_)
  fin_cases a
  · exact (congrArg (fun w : BitVec 32 => min w.toInt.toNat 1024) ((congrArg idx (s0 (by decide))).trans h0)).trans (word_min _ _ (by omega) (by decide))
  · show 0 + 0 + i.val = i.val
    omega

/-- One symbol set in each row. -/
theorem scatter_out (x : S32x128.Idx → α) (idx : IVec S32x2 32) (u : S32.Idx → α) (p : Fin 32 → Fin 128)
    (h0 : ∀ b, idx (ix2 b 0) = BitVec.ofNat 32 b.val) (h1 : ∀ b, idx (ix2 b 1) = BitVec.ofNat 32 (p b).val) (b : Fin 32) (j : Fin 128) :
    Host.scatter scatter_S32x128_S32x2_S32_n_01_01_1 (fun _ b => b) x idx u (ix2 b j) = if j = p b then u (ix1 b) else x (ix2 b j) := by
  have hr : ∀ k : Fin 32, scatter_S32x128_S32x2_S32_n_01_01_1.resultIdx? (ix1 k) idx = some (ix2 k (p k)) := fun k => by
    have s0 : ∀ h, scatter_S32x128_S32x2_S32_n_01_01_1.siIdx (ix1 k) ⟨0, h⟩ = ix2 k 0 := fun h => by
      funext a; fin_cases a <;> rfl
    have s1 : ∀ h, scatter_S32x128_S32x2_S32_n_01_01_1.siIdx (ix1 k) ⟨1, h⟩ = ix2 k 1 := fun h => by
      funext a; fin_cases a <;> rfl
    have e0 : scatter_S32x128_S32x2_S32_n_01_01_1.start (ix1 k) idx 0 = (k.val : ℤ) := by
      exact (congrArg BitVec.toInt ((congrArg idx (s0 (by decide))).trans (h0 k))).trans (word_int _ (by omega))
    have e1 : scatter_S32x128_S32x2_S32_n_01_01_1.start (ix1 k) idx 1 = ((p k).val : ℤ) := by
      exact (congrArg BitVec.toInt ((congrArg idx (s1 (by decide))).trans (h1 k))).trans (word_int _ (by omega))
    have w0 : scatter_S32x128_S32x2_S32_n_01_01_1.window (ix1 k) 0 = 0 := rfl
    have w1 : scatter_S32x128_S32x2_S32_n_01_01_1.window (ix1 k) 1 = 0 := rfl
    unfold ScatterDims.resultIdx?
    rw [dif_pos (fun a => by
      fin_cases a
      · show 0 ≤ scatter_S32x128_S32x2_S32_n_01_01_1.start (ix1 k) idx 0 + (scatter_S32x128_S32x2_S32_n_01_01_1.window (ix1 k) 0 : ℕ) ∧ scatter_S32x128_S32x2_S32_n_01_01_1.start (ix1 k) idx 0 + (scatter_S32x128_S32x2_S32_n_01_01_1.window (ix1 k) 0 : ℕ) < 32
        rw [e0, w0]; omega
      · show 0 ≤ scatter_S32x128_S32x2_S32_n_01_01_1.start (ix1 k) idx 1 + (scatter_S32x128_S32x2_S32_n_01_01_1.window (ix1 k) 1 : ℕ) ∧ scatter_S32x128_S32x2_S32_n_01_01_1.start (ix1 k) idx 1 + (scatter_S32x128_S32x2_S32_n_01_01_1.window (ix1 k) 1 : ℕ) < 128
        rw [e1, w1]; omega)]
    refine congrArg some (funext fun a => Fin.ext ?_)
    fin_cases a
    · show (scatter_S32x128_S32x2_S32_n_01_01_1.start (ix1 k) idx 0 + (scatter_S32x128_S32x2_S32_n_01_01_1.window (ix1 k) 0 : ℕ)).toNat = k.val
      rw [e0, w0]; omega
    · show (scatter_S32x128_S32x2_S32_n_01_01_1.start (ix1 k) idx 1 + (scatter_S32x128_S32x2_S32_n_01_01_1.window (ix1 k) 1 : ℕ)).toNat = (p k).val
      rw [e1, w1]; omega
  have hinj : ∀ k : S32.Idx, scatter_S32x128_S32x2_S32_n_01_01_1.resultIdx? k idx = some (ix2 b j) → k = ix1 b ∧ j = p b := fun k h => by
    obtain ⟨c, rfl⟩ : ∃ c : Fin 32, k = ix1 c := ⟨k 0, by funext a; fin_cases a; rfl⟩
    have h := Option.some.inj ((hr c).symm.trans h)
    have hb : c = b := congrFun h 0
    subst hb
    exact ⟨rfl, (congrFun h 1).symm⟩
  by_cases h : j = p b
  · rw [if_pos h]
    refine Routing.scatter_set_hit _ x idx u _ _ (fun k hkk => by rw [(hinj k hkk).1]) (ix1 b) ?_
    rw [hr, h]
  · rw [if_neg h]
    exact Routing.scatter_set_miss _ x idx u _ (fun k hkk => h (hinj k hkk).2)

end Cert.Proof.RI

end
-- ==== Proof.RefRow.lean ====
module

public import proofs.«01_k».proof.Proof.Index
public import proofs.«01_k».proof.Proof.Spec
public import proofs.«01_k».proof.Proof.Gen.ReferenceIdeal.Run

/-! A row of the reference's carried buffers goes through its loop as the row of the specification does. -/

@[expose] public section

noncomputable section

namespace Cert.Proof.RI

open Cert.ReferenceIdeal Cert.ReferenceIdeal.Gen Cert.ReferenceIdeal.Value Idealize.ShloMosaic

attribute [local instance] Cert.ReferenceIdeal.Gen.facts

/-- A word that is not negative is left alone by the wrap of negative indices. -/
theorem wrap_word (n : ℕ) (h : n < 2 ^ 31) (a : BitVec 32) :
    Scalar.select (IntOp.cmpi .slt (BitVec.ofNat 32 n) 0#32) a (BitVec.ofNat 32 n) = BitVec.ofNat 32 n := by
  have : (BitVec.ofNat 32 n).toNat = n := by rw [BitVec.toNat_ofNat]; omega
  exact Routing.wrap_of_lt _ _ (by rw [this]; exact h)

/-- A clipped word is a word of its range. -/
theorem clip_word (m : ℕ) (hm : m < 2 ^ 31) (t : BitVec 32) :
    ∃ n ≤ m, IntOp.minsi (BitVec.ofNat 32 m) (IntOp.maxsi 0#32 t) = BitVec.ofNat 32 n := by
  have hmm : (BitVec.ofNat 32 m).toNat = m := by rw [BitVec.toNat_ofNat]; omega
  refine ⟨(IntOp.minsi (BitVec.ofNat 32 m) (IntOp.maxsi 0#32 t)).toNat, ?_, by simp⟩
  unfold IntOp.minsi IntOp.maxsi
  by_cases h1 : t.slt 0#32 = true
  · rw [if_pos h1]
    by_cases h2 : (BitVec.ofNat 32 m).slt 0#32 = true
    · rw [if_pos h2, hmm]
    · rw [if_neg h2]; exact Nat.zero_le m
  · rw [if_neg h1]
    by_cases h2 : (BitVec.ofNat 32 m).slt t = true
    · rw [if_pos h2, hmm]
    · rw [if_neg h2]
      rw [BitVec.slt_iff_toInt_lt, BitVec.toInt_zero, BitVec.toInt_eq_toNat_cond] at h1
      rw [BitVec.slt_iff_toInt_lt, BitVec.toInt_eq_toNat_of_lt (by omega), hmm, BitVec.toInt_eq_toNat_cond] at h2
      have := t.isLt
      split at h1 <;> omega

/-- The index of the best of a row's scores. -/
theorem topk_pick (x : FVec Ideal S32x1025 .f32) (b : Fin 32) (l : Fin 1025 → EReal) (hl : ∀ k, x (ix2 b k) = l k) :
    (Host.topK S32x1 1 (FloatOps.cmpfTotal .gt) x sliceFits_S32x1025_S32x1).2 (ix2 b 0) = BitVec.ofNat 32 (pick l).val := by
  have ha : ∀ k : Fin 1025, Shape.Idx.along (s := S32x1025) (ix2 b 0) 1 k = ix2 b k := fun k => by
    funext a; fin_cases a <;> rfl
  unfold Host.topK Host.sort2
  pointwise
  simp only [ha, hl]
  rw [sortedFrom_pick l _ (fun p q => ?_) 0 rfl]
  · rfl
  · rw [Ideal.cmpfTotal_def]
    show (BitVec.ofBool (decide (l q < l p)) == 1#1) = true ↔ _
    by_cases h : l q < l p <;> simp [h]

/-- The greatest of a row's scores. -/
theorem reduce_best (x : FVec Ideal S32x1025 .f32) (b : Fin 32) :
    Host.reduce FloatOps.maximumf x (constant S_ .f32 0xFF800000#32) reducesTo_S32x1025_S32_d1 h_S_ (ix1 b)
      = Finset.fold max (Ideal.ofBits .f32 0xFF800000#32) (fun k => x (ix2 b k)) Finset.univ := by
  pointwise

/-- The negation of a one-bit word. -/
theorem not_word : ∀ x : BitVec 1, ~~~x = IntOp.xori x 1#1 := by decide

/-- The pair of words of a row: the first. -/
theorem pair_fst (u v : IVec S32x1 32) (b : Fin 32) :
    concatenate S32x2 1 [⟨S32x1, u⟩, ⟨S32x1, v⟩] concatenates_S32x1_S32x1_S32x2_d1 (ix2 b 0) = u (ix2 b 0) := by
  pointwise

/-- The pair of words of a row: the second. -/
theorem pair_snd (u v : IVec S32x1 32) (b : Fin 32) :
    concatenate S32x2 1 [⟨S32x1, u⟩, ⟨S32x1, v⟩] concatenates_S32x1_S32x1_S32x2_d1 (ix2 b 1) = v (ix2 b 0) := by
  pointwise

/-- The pair of index words of a row, negative ones wrapped: the first. -/
theorem index_fst (u v : IVec S32 32) (w w' : BitVec 32) (b : Fin 32) (n : ℕ) (hn : n < 2 ^ 31) (hu : u (ix1 b) = BitVec.ofNat 32 n) :
    concatenate S32x2 1 [⟨S32x1, broadcastInDim S32x1 ![0] bcast_S32_S32x1_0 (select (cmpi .slt u (broadcastInDim S32 ![] bcast_S_S32 (constantI S_ 32 0#32)))
        (addi u (broadcastInDim S32 ![] bcast_S_S32 (constantI S_ 32 w))) u)⟩,
      ⟨S32x1, broadcastInDim S32x1 ![0] bcast_S32_S32x1_0 (select (cmpi .slt v (broadcastInDim S32 ![] bcast_S_S32 (constantI S_ 32 0#32)))
        (addi v (broadcastInDim S32 ![] bcast_S_S32 (constantI S_ 32 w'))) v)⟩] concatenates_S32x1_S32x1_S32x2_d1 (ix2 b 0) = BitVec.ofNat 32 n := by
  rw [pair_fst]
  pointwise
  rw [hu]
  exact wrap_word n hn _

/-- The pair of index words of a row, negative ones wrapped: the second. -/
theorem index_snd (u v : IVec S32 32) (w w' : BitVec 32) (b : Fin 32) (n : ℕ) (hn : n < 2 ^ 31) (hv : v (ix1 b) = BitVec.ofNat 32 n) :
    concatenate S32x2 1 [⟨S32x1, broadcastInDim S32x1 ![0] bcast_S32_S32x1_0 (select (cmpi .slt u (broadcastInDim S32 ![] bcast_S_S32 (constantI S_ 32 0#32)))
        (addi u (broadcastInDim S32 ![] bcast_S_S32 (constantI S_ 32 w))) u)⟩,
      ⟨S32x1, broadcastInDim S32x1 ![0] bcast_S32_S32x1_0 (select (cmpi .slt v (broadcastInDim S32 ![] bcast_S_S32 (constantI S_ 32 0#32)))
        (addi v (broadcastInDim S32 ![] bcast_S_S32 (constantI S_ 32 w'))) v)⟩] concatenates_S32x1_S32x1_S32x2_d1 (ix2 b 1) = BitVec.ofNat 32 n := by
  rw [pair_snd]
  pointwise
  rw [hv]
  exact wrap_word n hn _

/-- A clipped frame word is the word of the frame it names. -/
theorem clip_frame (t : BitVec 32) : clip t = BitVec.ofNat 32 (frameAt (clip t)).val := by
  obtain ⟨n, hn, e⟩ := clip_word 63 (by decide) t
  have e : clip t = BitVec.ofNat 32 n := e
  rw [e]
  unfold frameAt
  congr 1
  show n = (BitVec.ofNat 32 n).toNat % 64
  rw [BitVec.toNat_ofNat]; omega

variable (V : Valuation τ sig (Elt Ideal))

/-- The weights among the carried buffers. -/
def net : Net where
  joint := fun i k => V (Proc.devRef .tc main_v51_3) (ix2 i k)
  embed := fun l i => V (Proc.devRef .tc main_v51_5) (ix2 l i)
  wi := fun i k => V (Proc.devRef .tc main_v51_6) (ix2 i k)
  wh := fun i k => V (Proc.devRef .tc main_v51_7) (ix2 i k)
  pred := fun i k => V (Proc.devRef .tc main_v51_9) (ix2 i k)

/-- Row `b` of the carried buffers. -/
def rowOf (b : Fin 32) : Row where
  time := V (Proc.devRef .tc main_v51_13) (ix1 b)
  len := V (Proc.devRef .tc main_v51_14) (ix1 b)
  sym := V (Proc.devRef .tc main_v51_15) (ix1 b)
  score := V (Proc.devRef .tc main_v51_16) (ix1 b)
  h := fun i => V (Proc.devRef .tc main_v51_18) (ix2 b i)
  c := fun i => V (Proc.devRef .tc main_v51_19) (ix2 b i)
  dec := fun i => V (Proc.devRef .tc main_v51_20) (ix2 b i)
  out := fun j => V (Proc.devRef .tc main_v51_17) (ix2 b j)

/-- Row `b` of the projected frames. -/
def xpOf (b : Fin 32) : Fin 64 → Fin 320 → EReal := fun t i => V (Proc.devRef .tc main_v51_2) (ix3 b t i)

/-- The length of row `b`. -/
def lenOf (b : Fin 32) : BitVec 32 := V (Proc.devRef .tc main_v51_0) (ix1 b)

/-- The row numbers are in place and the biases are zero. -/
def Good : Prop :=
  (∀ b : Fin 32, (V (Proc.devRef .tc main_v51_1) (ix1 b) : BitVec 32) = BitVec.ofNat 32 b.val)
    ∧ (∀ k : Fin 1025, @Eq EReal (V (Proc.devRef .tc main_v51_4) (ix1 k)) 0)
    ∧ (∀ k : Fin 1280, @Eq EReal (V (Proc.devRef .tc main_v51_8) (ix1 k)) 0)
    ∧ (∀ k : Fin 320, @Eq EReal (V (Proc.devRef .tc main_v51_10) (ix1 k)) 0)

variable (hg : Good V) (b : Fin 32)
include hg

/-- The scores of a row are those of the specification. -/
theorem logits_row (k : Fin 1025) : res_main_while0b_v74 V (ix2 b k) = (rowOf V b).logits (net V) (xpOf V b) k := by
  obtain ⟨h1, h4, -, -⟩ := hg
  have hw : res_main_while0b_v54 V (ix1 b) = clip (rowOf V b).time := by
    unfold clip rowOf
    pointwise [res_main_while0b_v54]
    rfl
  unfold Row.logits
  pointwise [res_main_while0b_v74]
  rw [show V (Proc.devRef .tc main_v51_4) (ix1 k) = (0 : EReal) from h4 k]
  refine (add_zero (M := EReal) _).trans (Finset.sum_congr rfl fun i _ => ?_)
  rw [gather_frame _ _ b i (frameAt (clip (rowOf V b).time)) (index_fst _ _ _ _ b _ (by omega) (h1 b))
    (index_snd _ _ _ _ b _ (by omega) (hw.trans (clip_frame _)))]
  rfl

/-- So is the label picked. -/
theorem label_row : res_main_while0b_v75 V (ix1 b) = (rowOf V b).word (net V) (xpOf V b) := by
  have hl := logits_row V hg b
  unfold Row.word Row.lab
  revert hl
  generalize (rowOf V b).logits (net V) (xpOf V b) = l
  intro hl
  pointwise [res_main_while0b_v75]
  exact topk_pick _ b l hl

/-- Whether it is the blank. -/
theorem blank_row : res_main_while0b_v78 V (ix1 b) = (rowOf V b).blank (net V) (xpOf V b) := by
  unfold Row.blank
  rw [← label_row V hg b]
  pointwise [res_main_while0b_v78]

omit hg in
/-- Whether the row is still decoding. -/
theorem live_row : res_main_while0b_v53 V (ix1 b) = (rowOf V b).live (lenOf V b) := by
  unfold Row.live rowOf lenOf
  pointwise [res_main_while0b_v53]

/-- Whether it writes a symbol. -/
theorem emit_row : res_main_while0b_v80 V (ix1 b) = (rowOf V b).emit (net V) (xpOf V b) (lenOf V b) := by
  unfold Row.emit
  rw [← blank_row V hg b, ← live_row V b]
  pointwise [res_main_while0b_v80]
  rw [not_word]

/-- The symbols of its frame. -/
theorem sym1_row : res_main_while0b_v166 V (ix1 b) = (rowOf V b).sym1 (net V) (xpOf V b) (lenOf V b) := by
  unfold Row.sym1
  rw [← emit_row V hg b]
  unfold rowOf
  pointwise [res_main_while0b_v166]

/-- Whether it goes on to its next frame. -/
theorem adv_row : res_main_while0b_v170 V (ix1 b) = (rowOf V b).adv (net V) (xpOf V b) (lenOf V b) := by
  unfold Row.adv
  rw [← blank_row V hg b, ← live_row V b, ← sym1_row V hg b]
  pointwise [res_main_while0b_v170]

/-- The gates. -/
theorem gates_row (k : Fin 1280) : res_main_while0b_v127 V (ix2 b k) = (rowOf V b).gates (net V) (xpOf V b) k := by
  have hl := label_row V hg b
  obtain ⟨-, -, h8, -⟩ := hg
  unfold Row.gates
  pointwise [res_main_while0b_v127]
  rw [show V (Proc.devRef .tc main_v51_8) (ix1 k) = (0 : EReal) from h8 k]
  refine (add_zero (M := EReal) _).trans (congrArg₂ (fun x y : EReal => x + y) (Finset.sum_congr rfl fun i _ => ?_) rfl)
  rw [gather_embed _ _ b i ((rowOf V b).lab (net V) (xpOf V b)) ?_]
  · rfl
  · pointwise
    rw [hl]
    exact wrap_word _ (by omega) _

/-- The new cell. -/
theorem cell_row (j : Fin 320) : res_main_while0b_v147 V (ix2 b j) = (rowOf V b).cell (net V) (xpOf V b) j := by
  unfold Row.cell
  rw [← gates_row V hg b, ← gates_row V hg b, ← gates_row V hg b]
  unfold sigm rowOf
  pointwise [res_main_while0b_v147]

/-- The new hidden state. -/
theorem hid_row (j : Fin 320) : res_main_while0b_v155 V (ix2 b j) = (rowOf V b).hid (net V) (xpOf V b) j := by
  unfold Row.hid
  rw [← gates_row V hg b, ← cell_row V hg b]
  unfold sigm
  pointwise [res_main_while0b_v155]

/-- The score a row adds is the greatest of its labels' scores. -/
theorem best_row : step_main_v51_16 V (ix1 b) = (rowOf V b).score + Scalar.select ((rowOf V b).emit (net V) (xpOf V b) (lenOf V b))
    ((rowOf V b).logits (net V) (xpOf V b) ((rowOf V b).lab (net V) (xpOf V b))) 0 := by
  have hl := logits_row V hg b
  rw [← emit_row V hg b]
  unfold Row.lab
  revert hl
  generalize (rowOf V b).logits (net V) (xpOf V b) = l
  intro hl
  rw [← fold_max_pick l, show l = fun k => res_main_while0b_v74 V (ix2 b k) from (funext hl).symm, ← reduce_best]
  unfold rowOf step_main_v51_16
  rw [id_eq]
  generalize hx : Host.reduce FloatOps.maximumf (res_main_while0b_v74 V) (constant S_ .f32 0xFF800000#32) reducesTo_S32x1025_S32_d1 h_S_ = x
  pointwise

/-- The symbols written. -/
theorem out_row (j : Fin 128) : step_main_v51_17 V (ix2 b j) = Scalar.select (IntOp.andi (IntOp.cmpi .eq (BitVec.ofNat 32 j.val) (rowOf V b).pos)
    ((rowOf V b).emit (net V) (xpOf V b) (lenOf V b))) ((rowOf V b).word (net V) (xpOf V b)) ((rowOf V b).out j) := by
  rw [← emit_row V hg b, ← label_row V hg b]
  obtain ⟨h1, -, -, -⟩ := hg
  have hp : ∀ b : Fin 32, ∃ n : Fin 128, res_main_while0b_v81 V (ix1 b) = BitVec.ofNat 32 n.val ∧ (rowOf V b).pos = BitVec.ofNat 32 n.val := fun b => by
    obtain ⟨n, hn, e⟩ := clip_word 127 (by decide) (rowOf V b).len
    refine ⟨⟨n, by omega⟩, Eq.trans ?_ e, e⟩
    unfold rowOf
    pointwise [res_main_while0b_v81]
    rfl
  choose p hp hq using hp
  unfold step_main_v51_17
  rw [id_eq, scatter_out _ _ _ p (fun b => index_fst _ _ _ _ b _ (by omega) (h1 b)) (fun b => index_snd _ _ _ _ b _ (by omega) (hp b)), hq b]
  have hs := gather_out (V (Proc.devRef .tc main_v51_17)) _ b (p b) (index_fst _ _ 32#32 128#32 b _ (by omega) (h1 b)) (index_snd _ _ _ _ b _ (by omega) (hp b))
  revert hs
  generalize Host.gather gather_S32x128_S32x2_S32_n_01_n_n_01_1_11 (V (Proc.devRef .tc main_v51_17)) _ = g
  intro hs
  show (if j = p b then Scalar.select (res_main_while0b_v80 V (ix1 b)) (res_main_while0b_v75 V (ix1 b)) (g (ix1 b))
    else V (Proc.devRef .tc main_v51_17) (ix2 b j)) = Scalar.select (IntOp.andi _ (res_main_while0b_v80 V (ix1 b))) (res_main_while0b_v75 V (ix1 b)) (V (Proc.devRef .tc main_v51_17) (ix2 b j))
  rw [hs]
  by_cases h : j = p b
  · subst h
    rw [if_pos rfl, show IntOp.cmpi .eq (BitVec.ofNat 32 (p b).val) (BitVec.ofNat 32 (p b).val) = 1#1 by simp [IntOp.cmpi]]
    congr 1
    exact (BitVec.allOnes_and (x := res_main_while0b_v80 V (ix1 b))).symm
  · have hne : ¬ BitVec.ofNat 32 j.val = BitVec.ofNat 32 (p b).val := fun e => h (Fin.ext (by
      have := congrArg BitVec.toNat e
      rw [BitVec.toNat_ofNat, BitVec.toNat_ofNat, Nat.mod_eq_of_lt (by omega), Nat.mod_eq_of_lt (by omega)] at this
      exact this))
    rw [if_neg h, show IntOp.cmpi .eq (BitVec.ofNat 32 j.val) (BitVec.ofNat 32 (p b).val) = 0#1 by
      simp only [IntOp.cmpi, beq_eq_false_iff_ne.mpr hne]; rfl]
    rw [show IntOp.andi 0#1 (res_main_while0b_v80 V (ix1 b)) = 0#1 from BitVec.zero_and]
    rfl

/-- A row's step. -/
theorem step_row : rowOf (STEP V) b = (rowOf V b).step (net V) (xpOf V b) (lenOf V b) := by
  refine Row.ext ?_ ?_ ?_ ?_ ?_ ?_ ?_ ?_ <;> unfold Row.step <;> dsimp only
  · rw [← adv_row V hg b]
    unfold rowOf; dsimp only
    rw [STEP_main_v51_13]; unfold step_main_v51_13; rw [id_eq]
    pointwise
  · rw [← emit_row V hg b]
    unfold rowOf; dsimp only
    rw [STEP_main_v51_14]; unfold step_main_v51_14; rw [id_eq]
    pointwise
  · rw [← adv_row V hg b, ← sym1_row V hg b]
    unfold rowOf; dsimp only
    rw [STEP_main_v51_15]; unfold step_main_v51_15; rw [id_eq]
    pointwise
  · rw [← best_row V hg b]
    unfold rowOf; dsimp only
    rw [STEP_main_v51_16]
  · funext j
    rw [← emit_row V hg b, ← hid_row V hg b]
    unfold rowOf; dsimp only
    rw [STEP_main_v51_18]; unfold step_main_v51_18; rw [id_eq]
    pointwise [res_main_while0b_v160]
  · funext j
    rw [← emit_row V hg b, ← cell_row V hg b]
    unfold rowOf; dsimp only
    rw [STEP_main_v51_19]; unfold step_main_v51_19; rw [id_eq]
    pointwise [res_main_while0b_v160]
  · funext j
    rw [← emit_row V hg b]
    simp only [← hid_row V hg b]
    have h10 := hg.2.2.2 j
    unfold rowOf net; dsimp only
    rw [STEP_main_v51_20]; unfold step_main_v51_20; rw [id_eq]
    pointwise [res_main_while0b_v160]
    rw [show V (Proc.devRef .tc main_v51_10) (ix1 j) = (0 : EReal) from h10, add_zero]
  · funext j
    rw [← out_row V hg b]
    unfold rowOf; dsimp only
    rw [STEP_main_v51_17]

/-- What a step leaves as it was. -/
theorem step_kept : Good (STEP V) ∧ net (STEP V) = net V ∧ xpOf (STEP V) b = xpOf V b ∧ lenOf (STEP V) b = lenOf V b := by
  unfold Good net xpOf lenOf at *
  rw [STEP_main_v51_0, STEP_main_v51_1, STEP_main_v51_2, STEP_main_v51_3, STEP_main_v51_4, STEP_main_v51_5, STEP_main_v51_6, STEP_main_v51_7,
    STEP_main_v51_8, STEP_main_v51_9, STEP_main_v51_10]
  exact ⟨hg, rfl, rfl, rfl⟩

omit hg in
/-- A row after any number of steps. -/
theorem steps_row : ∀ (n : ℕ) (V : Valuation τ sig (Elt Ideal)), Good V →
    rowOf (STEP^[n] V) b = (Row.step (net V) (xpOf V b) (lenOf V b))^[n] (rowOf V b)
  | 0, _, _ => rfl
  | n + 1, V, hg => by
    obtain ⟨h1, h2, h3, h4⟩ := step_kept V hg b
    rw [Function.iterate_succ_apply, Function.iterate_succ_apply, steps_row n _ h1, h2, h3, h4, step_row V hg b]

end Cert.Proof.RI

end
-- ==== Proof.Entry.lean ====
module

public import proofs.«01_k».proof.Proof.RefRow

/-! What the reference's carried buffers hold when its loop is entered, its biases being zero, and its results by the
rows of the specification. -/

@[expose] public section

noncomputable section

namespace Cert.Proof.RI

open Cert.ReferenceIdeal Cert.ReferenceIdeal.Gen Cert.ReferenceIdeal.Value Idealize.ShloMosaic
open Idealize.ShloMosaic.StableHlo Idealize.ShloMosaic.TcCoe

attribute [local instance] Cert.ReferenceIdeal.Gen.facts

variable (m : (ℓ : Loc nD τ sig) → Buf (Elt Ideal) ℓ) (c : Dev nD)

/-- The four biases are zero. -/
structure NoBias : Prop where
  enc : ∀ k : Fin 320, @Eq EReal (m ((c.tc : Thread nD τ).loc main_arg3) (ix1 k)) 0
  lstm : ∀ k : Fin 1280, @Eq EReal (m ((c.tc : Thread nD τ).loc main_arg7) (ix1 k)) 0
  pred : ∀ k : Fin 320, @Eq EReal (m ((c.tc : Thread nD τ).loc main_arg9) (ix1 k)) 0
  joint : ∀ k : Fin 1025, @Eq EReal (m ((c.tc : Thread nD τ).loc main_arg11) (ix1 k)) 0

/-- The weights among the arguments. -/
def argNet : Net where
  joint := fun i k => m ((c.tc : Thread nD τ).loc main_arg10) (ix2 i k)
  embed := fun l i => m ((c.tc : Thread nD τ).loc main_arg4) (ix2 l i)
  wi := fun i k => m ((c.tc : Thread nD τ).loc main_arg5) (ix2 i k)
  wh := fun i k => m ((c.tc : Thread nD τ).loc main_arg6) (ix2 i k)
  pred := fun i k => m ((c.tc : Thread nD τ).loc main_arg8) (ix2 i k)

/-- Row `b` of the encoder's frames, projected. -/
def argFrames (b : Fin 32) : Fin 64 → Fin 320 → EReal := fun t j =>
  ∑ i : Fin 256, HMul.hMul (α := EReal) (β := EReal) (γ := EReal) (m ((c.tc : Thread nD τ).loc main_arg0) (ix3 b t i)) (m ((c.tc : Thread nD τ).loc main_arg2) (ix2 i j))

/-- The hyperbolic tangent of zero. -/
theorem tanh_zero : Ideal.tanh 0 = 0 := by
  show ((Real.tanh 0 : ℝ) : EReal) = 0
  rw [Real.tanh_zero]; rfl

/-- A zero row times a matrix, a zero bias added. -/
theorem zero_gate {n : ℕ} (f g : Fin n → EReal) (x : EReal) (hx : x = 0) : ∑ i, 0 * f i + ∑ i, 0 * g i + x = 0 := by
  simp [hx]

/-- The row numbers are in place and the carried biases are zero. -/
theorem entry_good (hz : NoBias m c) : Good (entryContents preI m c) := by
  refine ⟨fun b => ?_, fun k => Eq.trans ?_ (hz.joint k), fun k => Eq.trans ?_ (hz.lstm k), fun k => Eq.trans ?_ (hz.pred k)⟩
  · simp only [entryContents, afterL_cons, afterL_nil]
    after_reads_simp
    rfl
  · simp only [entryContents, afterL_cons, afterL_nil]
    after_reads_simp
    rfl
  · simp only [entryContents, afterL_cons, afterL_nil]
    after_reads_simp
    rfl
  · simp only [entryContents, afterL_cons, afterL_nil]
    after_reads_simp
    rfl

/-- The carried weights are the arguments'. -/
theorem entry_net : net (entryContents preI m c) = argNet m c := by
  unfold net argNet
  simp only [entryContents, afterL_cons, afterL_nil]
  after_reads_simp
  rfl

/-- The carried lengths are the argument's. -/
theorem entry_len (b : Fin 32) : lenOf (entryContents preI m c) b = m ((c.tc : Thread nD τ).loc main_arg1) (ix1 b) := by
  unfold lenOf
  simp only [entryContents, afterL_cons, afterL_nil]
  after_reads_simp
  rfl

/-- The projected frames. -/
theorem entry_frames (hz : NoBias m c) (b : Fin 32) (t : Fin 64) (j : Fin 320) : xpOf (entryContents preI m c) b t j
    = argFrames m c b t j := by
  unfold xpOf argFrames
  simp only [entryContents, afterL_cons, afterL_nil]
  after_reads_simp
  rw [id_eq]
  pointwise
  have h : launchContents m c (Proc.devRef .tc main_arg3) (ix1 j) = (0 : EReal) := hz.enc j
  rw [h]
  exact add_zero _

/-- The first hidden state is zero. -/
theorem entry_h (hz : NoBias m c) (b : Fin 32) (j : Fin 320) : @Eq EReal (entryContents preI m c (Proc.devRef .tc main_v51_18) (ix2 b j)) 0 := by
  simp only [entryContents, afterL_cons, afterL_nil]
  after_reads_simp
  rw [id_eq]
  pointwise
  rw [zero_gate (x := launchContents m c (Proc.devRef .tc main_arg7) (ix1 ⟨640 + j.val, _⟩)) _ _ (hz.lstm _), tanh_zero, mul_zero, mul_zero, add_zero, tanh_zero, mul_zero]

/-- The first cell is zero. -/
theorem entry_c (hz : NoBias m c) (b : Fin 32) (j : Fin 320) : @Eq EReal (entryContents preI m c (Proc.devRef .tc main_v51_19) (ix2 b j)) 0 := by
  simp only [entryContents, afterL_cons, afterL_nil]
  after_reads_simp
  rw [id_eq]
  pointwise
  rw [zero_gate (x := launchContents m c (Proc.devRef .tc main_arg7) (ix1 ⟨640 + j.val, _⟩)) _ _ (hz.lstm _), tanh_zero, mul_zero, mul_zero, add_zero]

/-- The first projected state is zero. -/
theorem entry_dec (hz : NoBias m c) (b : Fin 32) (j : Fin 320) : @Eq EReal (entryContents preI m c (Proc.devRef .tc main_v51_20) (ix2 b j)) 0 := by
  simp only [entryContents, afterL_cons, afterL_nil]
  after_reads_simp
  rw [id_eq]
  pointwise
  have h : launchContents m c (Proc.devRef .tc main_arg9) (ix1 j) = (0 : EReal) := hz.pred j
  rw [h, add_zero]
  refine Finset.sum_eq_zero fun i _ => ?_
  rw [zero_gate (x := launchContents m c (Proc.devRef .tc main_arg7) (ix1 ⟨640 + i.val, _⟩)) _ _ (hz.lstm _), tanh_zero, mul_zero, mul_zero, add_zero, tanh_zero, mul_zero, zero_mul]

/-- Every row starts as the specification's. -/
theorem entry_row (hz : NoBias m c) (b : Fin 32) : rowOf (entryContents preI m c) b = Row.start := by
  refine Row.ext ?_ ?_ ?_ ?_ (funext (entry_h m c hz b)) (funext (entry_c m c hz b)) (funext (entry_dec m c hz b)) (funext fun j => ?_) <;>
    unfold rowOf Row.start <;> dsimp only
  · simp only [entryContents, afterL_cons, afterL_nil]
    after_reads_simp
    rw [id_eq]
    pointwise
  · simp only [entryContents, afterL_cons, afterL_nil]
    after_reads_simp
    rw [id_eq]
    pointwise
  · simp only [entryContents, afterL_cons, afterL_nil]
    after_reads_simp
    rw [id_eq]
    pointwise
  · simp only [entryContents, afterL_cons, afterL_nil]
    after_reads_simp
    rw [id_eq]
    pointwise
  · simp only [entryContents, afterL_cons, afterL_nil]
    after_reads_simp
    rw [id_eq]
    pointwise

/-- A row at the loop's end. -/
theorem end_row (hz : NoBias m c) (b : Fin 32) : rowOf (STEP^[192] (entryContents preI m c)) b
    = (Row.step (argNet m c) (argFrames m c b)
        (m ((c.tc : Thread nD τ).loc main_arg1) (ix1 b)))^[192] Row.start := by
  rw [steps_row b 192 _ (entry_good m c hz), entry_row m c hz, entry_net, entry_len,
    show xpOf (entryContents preI m c) b = _ from funext fun t => funext fun j => entry_frames m c hz b t j]

end Cert.Proof.RI

end
-- ==== Proof.Same.lean ====
module

public import proofs.«01_k».proof.Kernel
public import proofs.«01_k».proof.KernelIdeal

/-! The program at the machine's numbers and the program at the ideal numbers are one text: what is proved of the
second at every number system holds of the first. -/

@[expose] public section

namespace Cert.Proof

open Idealize.ShloMosaic

variable {F : FTy → Type} [FloatOps F] [hK : Cert.Kernel.Facts] [hI : Cert.KernelIdeal.Facts]

set_option maxHeartbeats 40000000

/-- The two kernel functions are one function. -/
theorem kernel_same : Cert.Kernel.cc0__decode_kernel (F := F) = Cert.KernelIdeal.cc0__decode_kernel (F := F) := rfl

/-- The two tables of kernel bodies are one table. -/
theorem defs₀_same : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rfl

/-- The two tables of bodies, with the pipeline's own, are one table. -/
theorem defs_same : Cert.Kernel.defs (F := F) = Cert.KernelIdeal.defs (F := F) :=
  congrArg (Pipeline.defs Cert.Kernel.pcfgs) defs₀_same

/-- The two `@main`s are one program. -/
theorem main_same : Cert.Kernel.main (F := F) = Cert.KernelIdeal.main (F := F) := rfl

end Cert.Proof
-- ==== Proof.Frames.lean ====
module

public import proofs.«01_k».proof.Defs
public import proofs.«01_k».proof.Proof.Same
public import proofs.«01_k».proof.Proof.Ends
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

/-! The frames: the kernel's program at both number systems, and the reference's. -/

@[expose] public section

set_option maxHeartbeats 4000000

noncomputable section

namespace Cert.Proof

open Idealize.ShloMosaic Idealize.SL.Sem
open Idealize.ShloMosaic.TcCoe

attribute [local instance] Cert.Kernel.Gen.facts Cert.KernelIdeal.Gen.facts Cert.ReferenceIdeal.Gen.facts

/-- The kernel's program at the ideal numbers keeps its arguments and ends with no counter raised. -/
theorem frame_ideal : quiescent_KernelIdeal :=
  fun m g _ => (θ_run (Cert.KernelIdeal.defs (F := Ideal)) _ _).mono
    (fun _ h => ⟨fun c => (h.1 c).2.2.2, h.2⟩) (KI.run_ends (F := Ideal) m g)

/-- The kernel's program at the machine's numbers keeps its arguments and ends with no counter raised. -/
theorem frame_bits : quiescent_Kernel := by
  intro m g _
  rw [defs_same (F := Bits), main_same (F := Bits)]
  exact (θ_run (Cert.KernelIdeal.defs (F := Bits)) _ _).mono
    (fun _ h => ⟨fun c => (h.1 c).2.2.2, h.2⟩) (KI.run_ends (F := Bits) m g)

/-- The reference's program keeps its arguments and ends with no counter raised. -/
theorem frame_reference : quiescent_ReferenceIdeal :=
  fun m g _ => (θ_run (Cert.ReferenceIdeal.defs (F := Ideal)) _ _).mono
    (fun r h => ⟨fun c => (h c).2.2.2, sem_eq_zero_of_no_sems (by decide) r.2⟩) (Cert.ReferenceIdeal.Value.run m g)

/-- The ideal program is the machine's, operation for operation. -/
theorem kept_text : preserves_Kernel_KernelIdeal := trivial

end Cert.Proof

end
-- ==== Proof.Value.lean ====
module

public import proofs.«01_k».proof.Proof.Blocks
public import proofs.«01_k».proof.Proof.Entry
public import proofs.«01_k».proof.Proof.Frames

/-! The kernel's results are the reference's, on the inputs the precondition admits. -/

@[expose] public section

noncomputable section

namespace Cert.Proof

open Idealize.ShloMosaic Idealize.SL.Sem
open Idealize.ShloMosaic.TcCoe Idealize.ShloMosaic.Tactic

attribute [local instance] Cert.Kernel.Gen.facts Cert.KernelIdeal.Gen.facts Cert.ReferenceIdeal.Gen.facts

/-- The precondition's side conditions. -/
theorem drawn_facts : Cert.Pre_drawn.Facts where
  bcast_S_S32 := by decide
  bcast_S_S320 := by decide
  bcast_S_S1280 := by decide
  bcast_S_S1025 := by decide

attribute [local instance] drawn_facts

/-- A set bit of the length test bounds the length. -/
theorem le_of_bit (w : BitVec 32) (h : IntOp.cmpi .sle w 64#32 = 1#1) : w.toInt ≤ 64 := by
  have h' := (StableHlo.Predicate.ofBool_eq_one_iff _).mp h
  rw [BitVec.sle_iff_toInt_le] at h'
  exact h'

/-- A set bit of an equality test with the zero word says the number is zero. -/
theorem zero_of_bit (x : Ideal .f32) (h : FloatOps.cmpf (F := Ideal) (φ := .f32) .oeq x (FloatOps.ofBits (F := Ideal) .f32 0x00000000#32) = 1#1) :
    @Eq EReal x 0 := by
  have h' : x = FloatOps.ofBits (F := Ideal) .f32 0x00000000#32 := of_decide_eq_true ((StableHlo.Predicate.ofBool_eq_one_iff _).mp h)
  exact h'.trans (Ideal.ofBits_zero_f32)

/-- Two matrices equal at each index are equal. -/
theorem ext_ix2 {n k : ℕ} {α : Type} {f g : (⟨2, ![n, k]⟩ : Shape).Idx → α} (h : ∀ (a : Fin n) (b : Fin k), f (ix2 a b) = g (ix2 a b)) : f = g :=
  funext fun i => by rw [eq_ix2 i]; exact h (i 0) (i 1)

/-- Two lists equal at each index are equal. -/
theorem ext_ix1 {n : ℕ} {α : Type} {f g : (⟨1, ![n]⟩ : Shape).Idx → α} (h : ∀ a : Fin n, f (ix1 a) = g (ix1 a)) : f = g :=
  funext fun i => by rw [eq_ix1 i]; exact h (i 0)

/-- A column of words read as a list. -/
theorem list_word (f : IVec Cert.KernelIdeal.S32x1 32) (h : Cert.KernelIdeal.S32x1.ShapeCasts Cert.KernelIdeal.S32) (b : Fin 32) :
    shapeCast Cert.KernelIdeal.S32 f h (ix1 b) = f (ix2 b 0) := by
  pointwise []

/-- A column of numbers read as a list. -/
theorem list_float (f : FVec Ideal Cert.KernelIdeal.S32x1 .f32) (h : Cert.KernelIdeal.S32x1.ShapeCasts Cert.KernelIdeal.S32) (b : Fin 32) :
    shapeCast Cert.KernelIdeal.S32 f h (ix1 b) = f (ix2 b 0) := by
  pointwise []

/-- Equal rows make equal results. -/
theorem meet (V : Valuation Cert.ReferenceIdeal.τ Cert.ReferenceIdeal.sig (Elt Ideal)) (A : KI.Acc Ideal) (y : Vec Ideal Cert.KernelIdeal.S32x128 .i32)
    (h : ∀ b : Fin 32, (RI.rowOf V b).len = (KI.rowOf b A y).len ∧ (RI.rowOf V b).score = (KI.rowOf b A y).score
      ∧ (RI.rowOf V b).out = (KI.rowOf b A y).out) :
    V (Proc.devRef .tc Cert.ReferenceIdeal.main_v51_17) = y
    ∧ V (Proc.devRef .tc Cert.ReferenceIdeal.main_v51_14) = shapeCast Cert.KernelIdeal.S32 A.2.1 Cert.KernelIdeal.Facts₀.shapeCasts_S32x1_S32
    ∧ V (Proc.devRef .tc Cert.ReferenceIdeal.main_v51_16) = shapeCast Cert.KernelIdeal.S32 A.2.2.2.1 Cert.KernelIdeal.Facts₀.shapeCasts_S32x1_S32 :=
  ⟨ext_ix2 fun b j => congrFun (h b).2.2 j,
    ext_ix1 fun b => (h b).1.trans (list_word A.2.1 Cert.KernelIdeal.Facts₀.shapeCasts_S32x1_S32 b).symm,
    ext_ix1 fun b => (h b).2.1.trans (list_float A.2.2.2.1 Cert.KernelIdeal.Facts₀.shapeCasts_S32x1_S32 b).symm⟩

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on device `c`. -/
def Agree (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m'} {c : Dev Cert.KernelIdeal.nD}

/-- The admitted lengths are at most the number of frames. -/
theorem drawn_len (hp : Pre_KernelIdeal_drawn m) (b : Fin 32) :
    @LE.le ℤ _ (BitVec.toInt (n := 32) (m ((c.tc : Thread Cert.KernelIdeal.nD Cert.KernelIdeal.τ).loc Cert.KernelIdeal.main_arg1) (ix1 b))) 64 :=
  le_of_bit _ (congrFun (hp c).1 (ix1 b))

/-- The admitted biases are zero, read in the reference's memory. -/
theorem drawn_bias (hp : Pre_KernelIdeal_drawn m) (ha : Agree m m' c) : RI.NoBias m' c where
  enc k := (congrFun ha.2.2.2.1 (ix1 k)).trans (zero_of_bit _ (congrFun (hp c).2.1 (ix1 k)))
  lstm k := (congrFun ha.2.2.2.2.2.2.2.1 (ix1 k)).trans (zero_of_bit _ (congrFun (hp c).2.2.1 (ix1 k)))
  pred k := (congrFun ha.2.2.2.2.2.2.2.2.2.1 (ix1 k)).trans (zero_of_bit _ (congrFun (hp c).2.2.2.1 (ix1 k)))
  joint k := (congrFun ha.2.2.2.2.2.2.2.2.2.2.2 (ix1 k)).trans (zero_of_bit _ (congrFun (hp c).2.2.2.2 (ix1 k)))

/-- The two programs read the same weights. -/
theorem same_net (ha : Agree m m' c) : RI.argNet m' c = KI.argNet m c := by
  obtain ⟨-, -, -, -, h4, h5, h6, -, h8, -, h10, -⟩ := ha
  unfold RI.argNet KI.argNet
  rw [Net.mk.injEq]
  exact ⟨funext fun i => funext fun k => congrFun h10 (ix2 i k), funext fun i => funext fun k => congrFun h4 (ix2 i k),
    funext fun i => funext fun k => congrFun h5 (ix2 i k), funext fun i => funext fun k => congrFun h6 (ix2 i k),
    funext fun i => funext fun k => congrFun h8 (ix2 i k)⟩

/-- The two programs read the same projected frames. -/
theorem same_frames (ha : Agree m m' c) (b : Fin 32) : RI.argFrames m' c b = KI.argFrames m c b := by
  funext t j
  exact Finset.sum_congr rfl fun i _ => congrArg₂ (fun x y : EReal => x * y) (congrFun ha.1 (ix3 b t i)) (congrFun ha.2.2.1 (ix2 i j))

open Cert.ReferenceIdeal Cert.ReferenceIdeal.Gen Cert.ReferenceIdeal.Value StableHlo in
/-- A row of the reference's last state, by the kernel's arguments. -/
theorem ref_row (hp : Pre_KernelIdeal_drawn m) (ha : Agree m m' c) (b : Fin 32) : RI.rowOf (STEP^[192] (entryContents preI m' c)) b
    = (Row.step (KI.argNet m c) (KI.argFrames m c b)
        (m ((c.tc : Thread Cert.KernelIdeal.nD Cert.KernelIdeal.τ).loc Cert.KernelIdeal.main_arg1) (ix1 b)))^[192] Row.start := by
  rw [RI.end_row m' c (drawn_bias hp ha) b, same_net ha, same_frames ha]
  exact congrArg (fun w => (Row.step (KI.argNet m c) (KI.argFrames m c b) w)^[192] Row.start) (congrFun ha.2.1 (ix1 b))

open Cert.ReferenceIdeal Cert.ReferenceIdeal.Gen Cert.ReferenceIdeal.Value StableHlo in
/-- The reference's row and the kernel's carry the same length, score and symbols. -/
theorem rows_meet (hp : Pre_KernelIdeal_drawn m) (ha : Agree m m' c) (b : Fin 32) :
    (RI.rowOf (STEP^[192] (entryContents preI m' c)) b).len = (KI.rowOf b (KI.left m c Cert.KernelIdeal.Gen.t0_0).1 (KI.left m c Cert.KernelIdeal.Gen.t0_0).2).len
    ∧ (RI.rowOf (STEP^[192] (entryContents preI m' c)) b).score = (KI.rowOf b (KI.left m c Cert.KernelIdeal.Gen.t0_0).1 (KI.left m c Cert.KernelIdeal.Gen.t0_0).2).score
    ∧ (RI.rowOf (STEP^[192] (entryContents preI m' c)) b).out = (KI.rowOf b (KI.left m c Cert.KernelIdeal.Gen.t0_0).1 (KI.left m c Cert.KernelIdeal.Gen.t0_0).2).out := by
  rw [ref_row hp ha, KI.left_row]
  exact Row.steps_192 _ _ _ (drawn_len hp b)

end

/-- On admitted inputs the kernel's program and the reference's end with equal results. -/
theorem algebraic : algebraic_KernelIdeal_ReferenceIdeal_pre_drawn := by
  intro m g m' g' hp ha
  refine ⟨fun c => (KI.left m c Cert.KernelIdeal.Gen.t0_0).2,
    fun c => shapeCast Cert.KernelIdeal.S32 (KI.left m c Cert.KernelIdeal.Gen.t0_0).1.2.1 Cert.KernelIdeal.Facts₀.shapeCasts_S32x1_S32,
    fun c => shapeCast Cert.KernelIdeal.S32 (KI.left m c Cert.KernelIdeal.Gen.t0_0).1.2.2.2.1 Cert.KernelIdeal.Facts₀.shapeCasts_S32x1_S32, ?_, ?_⟩
  · exact (θ_run (Cert.KernelIdeal.defs (F := Ideal)) _ _).mono (fun _ h => h.1) (KI.run_ends (F := Ideal) m g)
  · refine (θ_run (Cert.ReferenceIdeal.defs (F := Ideal)) _ _).mono (fun _ h c => ?_) (Cert.ReferenceIdeal.Value.run m' g')
    obtain ⟨h0, h1, h2⟩ := meet _ _ _ (rows_meet hp (ha c))
    exact ⟨(h c).1.trans h0, (h c).2.1.trans h1, (h c).2.2.1.trans h2, (h c).2.2.2⟩

end Cert.Proof

end
-- ==== Proof.lean ====
module

public import proofs.«01_k».proof.Defs
public import proofs.«01_k».proof.Proof.Value

/-! The certificate: the frames, the ideal program's text, and the equal results. -/

@[expose] public section

noncomputable section

namespace Cert.Proof

/-- Everything the certificate claims. -/
theorem claim : Cert.Claim :=
  ⟨Cert.Kernel.Gen.facts, Cert.KernelIdeal.Gen.facts, Cert.ReferenceIdeal.Gen.facts, drawn_facts, frame_bits, frame_ideal,
    fun m g _ => frame_ideal m g trivial, frame_reference, fun m g _ => frame_reference m g trivial, kept_text, algebraic⟩

end Cert.Proof

end
